-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arrays [hPre_finite_arrays : Cert.Pre_finite_arrays.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arrays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_arrays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_arrays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arrays [hPre_finite_arrays : Cert.Pre_finite_arrays.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arrays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_arrays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_arrays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_arrays [hKernelIdeal : Cert.KernelIdeal.Facts] [hPre_finite_arrays : Cert.Pre_finite_arrays.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arrays m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_arrays [hReferenceIdeal : Cert.ReferenceIdeal.Facts] [hPre_finite_arrays : Cert.Pre_finite_arrays.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arrays m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_arrays [hKernelIdeal : Cert.KernelIdeal.Facts] [hReferenceIdeal : Cert.ReferenceIdeal.Facts] [hPre_finite_arrays : Cert.Pre_finite_arrays.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arrays m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v298) = v0 c
          ∧ r.2.mem ((c.tc : Thread Cert.ReferenceIdeal.nD Cert.ReferenceIdeal.τ).loc Cert.ReferenceIdeal.main_v293) = v1 c
          ∧ r.2.mem ((c.tc : Thread Cert.ReferenceIdeal.nD Cert.ReferenceIdeal.τ).loc Cert.ReferenceIdeal.main_v294) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_arrays : Cert.Pre_finite_arrays.Facts),
    quiescent_Kernel (hKernel := hKernel)
    ∧ quiescent_KernelIdeal (hKernelIdeal := hKernelIdeal)
    ∧ quiescent_KernelIdeal_pre_finite_arrays (hKernelIdeal := hKernelIdeal) (hPre_finite_arrays := hPre_finite_arrays)
    ∧ quiescent_ReferenceIdeal (hReferenceIdeal := hReferenceIdeal)
    ∧ quiescent_ReferenceIdeal_pre_finite_arrays (hReferenceIdeal := hReferenceIdeal) (hPre_finite_arrays := hPre_finite_arrays)
    ∧ preserves_Kernel_KernelIdeal
    ∧ algebraic_KernelIdeal_ReferenceIdeal_pre_finite_arrays (hKernelIdeal := hKernelIdeal) (hReferenceIdeal := hReferenceIdeal) (hPre_finite_arrays := hPre_finite_arrays)
-- ==== Pre_finite_arrays.lean ====
abbrev S8x4096x128 : Shape := ⟨3, ![8, 4096, 128]⟩
abbrev S6x8192x8 : Shape := ⟨3, ![6, 8192, 8]⟩
abbrev S6x8 : Shape := ⟨2, ![6, 8]⟩
abbrev S6x1024x8 : Shape := ⟨3, ![6, 1024, 8]⟩
abbrev S6x8x8192 : Shape := ⟨3, ![6, 8, 8192]⟩
abbrev S6x8192 : Shape := ⟨2, ![6, 8192]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel
  bcast_S_S6x8x8192 : S_.BroadcastsInDim S6x8x8192 (![] : Fin 0 → Fin S6x8x8192.rank)
  reducesTo_S6x8x8192_S_d0_1_2 : S6x8x8192.ReducesTo [0, 1, 2] S_
  bcast_S_S6x8192 : S_.BroadcastsInDim S6x8192 (![] : Fin 0 → Fin S6x8192.rank)
  reducesTo_S6x8192_S_d0_1 : S6x8192.ReducesTo [0, 1] S_

variable [Facts]

def fn {F : FTy → Type} [FloatOps F] (main_arg0 : FVec F S8x4096x128 .f32) (main_arg1 : FVec F S6x8192x8 .f32) (main_arg2 : FVec F S6x8 .f32) (main_arg3 : FVec F S6x1024x8 .f32) (main_arg4 : FVec F S6x8x8192 .f32) (main_arg5 : FVec F S6x8192 .f32) : IVec S_ 1 × IVec S_ 1 × IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  let main_v4 : FVec F S6x8x8192 .f32 := Host.absf main_arg4
  let main_cst_0 : FVec F S_ .f32 := constant S_ .f32 0x7F800000#32
  let main_v5 : FVec F S6x8x8192 .f32 := broadcastInDim S6x8x8192 ![] bcast_S_S6x8x8192 main_cst_0
  let main_v6 : IVec S6x8x8192 1 := cmpf .olt main_v4 main_v5
  let main_c_1 : IVec S_ 1 := constantI S_ 1 1#1
  let main_v7 : IVec S_ 1 := (fun x v => Host.reduce IntOp.andi x v reducesTo_S6x8x8192_S_d0_1_2 h_S_) main_v6 main_c_1
  let main_v8 : FVec F S6x8192 .f32 := Host.absf main_arg5
  let main_cst_2 : FVec F S_ .f32 := constant S_ .f32 0x7F800000#32
  let main_v9 : FVec F S6x8192 .f32 := broadcastInDim S6x8192 ![] bcast_S_S6x8192 main_cst_2
  let main_v10 : IVec S6x8192 1 := cmpf .olt main_v8 main_v9
  let main_c_3 : IVec S_ 1 := constantI S_ 1 1#1
  let main_v11 : IVec S_ 1 := (fun x v => Host.reduce IntOp.andi x v reducesTo_S6x8192_S_d0_1 h_S_) main_v10 main_c_3
  (main_v3, main_v7, main_v11)
-- ==== Kernel.lean ====
abbrev S8x4096x128 : Shape := ⟨3, ![8, 4096, 128]⟩
abbrev S6x8192x8 : Shape := ⟨3, ![6, 8192, 8]⟩
abbrev S6x8 : Shape := ⟨2, ![6, 8]⟩
abbrev S6x1024x8 : Shape := ⟨3, ![6, 1024, 8]⟩
abbrev S6x8x8192 : Shape := ⟨3, ![6, 8, 8192]⟩
abbrev S6x8192 : Shape := ⟨2, ![6, 8192]⟩
abbrev S8x16x256x128 : Shape := ⟨4, ![8, 16, 256, 128]⟩
abbrev S8x256x128x16 : Shape := ⟨4, ![8, 256, 128, 16]⟩
abbrev S8x256x2048 : Shape := ⟨3, ![8, 256, 2048]⟩
abbrev S512x8192 : Shape := ⟨2, ![512, 8192]⟩
abbrev S_ : Shape := ⟨0, ![]⟩
abbrev S6x1024 : Shape := ⟨2, ![6, 1024]⟩
abbrev S6x1024x1 : Shape := ⟨3, ![6, 1024, 1]⟩
abbrev S6x8x1024 : Shape := ⟨3, ![6, 8, 1024]⟩
abbrev S6x1x8 : Shape := ⟨3, ![6, 1, 8]⟩
abbrev S6x1x8192 : Shape := ⟨3, ![6, 1, 8192]⟩
abbrev S8x1 : Shape := ⟨2, ![8, 1]⟩
abbrev S512x2048 : Shape := ⟨2, ![512, 2048]⟩
abbrev S512x1024 : Shape := ⟨2, ![512, 1024]⟩
abbrev S8x512 : Shape := ⟨2, ![8, 512]⟩
abbrev S8x8 : Shape := ⟨2, ![8, 8]⟩
abbrev S1x8192x8 : Shape := ⟨3, ![1, 8192, 8]⟩
abbrev S8192x8 : Shape := ⟨2, ![8192, 8]⟩
abbrev S512x8 : Shape := ⟨2, ![512, 8]⟩
abbrev S1x1x8 : Shape := ⟨3, ![1, 1, 8]⟩
abbrev S1x8 : Shape := ⟨2, ![1, 8]⟩
abbrev S512 : Shape := ⟨1, ![512]⟩
abbrev S512x1 : Shape := ⟨2, ![512, 1]⟩
abbrev S1x8x1024 : Shape := ⟨3, ![1, 8, 1024]⟩
abbrev S8x1024 : Shape := ⟨2, ![8, 1024]⟩
abbrev S1x1024x8 : Shape := ⟨3, ![1, 1024, 8]⟩
abbrev S1024x8 : Shape := ⟨2, ![1024, 8]⟩
abbrev S1x8x2048 : Shape := ⟨3, ![1, 8, 2048]⟩
abbrev S8x2048 : Shape := ⟨2, ![8, 2048]⟩
abbrev S1x1x2048 : Shape := ⟨3, ![1, 1, 2048]⟩
abbrev S1x2048 : Shape := ⟨2, ![1, 2048]⟩
abbrev S8 : Shape := ⟨1, ![8]⟩

abbrev nBuf : Space → Nat
  | .hbm => 33
  | .vmem => 10
  | .smem => 0
  | _ => 0

abbrev bufTy : (tb : Table) → Fin (tcTables nBuf tb) → BufTy
  | .hbm, ⟨0, _⟩ => ⟨S8x4096x128, .f32⟩
  | .hbm, ⟨1, _⟩ => ⟨S6x8192x8, .f32⟩
  | .hbm, ⟨2, _⟩ => ⟨S6x8, .f32⟩
  | .hbm, ⟨3, _⟩ => ⟨S6x1024x8, .f32⟩
  | .hbm, ⟨4, _⟩ => ⟨S6x8x8192, .f32⟩
  | .hbm, ⟨5, _⟩ => ⟨S6x8192, .f32⟩
  | .hbm, ⟨6, _⟩ => ⟨S8x16x256x128, .f32⟩
  | .hbm, ⟨7, _⟩ => ⟨S8x256x128x16, .f32⟩
  | .hbm, ⟨8, _⟩ => ⟨S8x256x2048, .f32⟩
  | .hbm, ⟨9, _⟩ => ⟨S512x8192, .f32⟩
  | .hbm, ⟨10, _⟩ => ⟨S6x1024x8, .f32⟩
  | .hbm, ⟨11, _⟩ => ⟨S_, .f32⟩
  | .hbm, ⟨12, _⟩ => ⟨S6x1024, .f32⟩
  | .hbm, ⟨13, _⟩ => ⟨S6x1024x1, .f32⟩
  | .hbm, ⟨14, _⟩ => ⟨S6x1024x1, .f32⟩
  | .hbm, ⟨15, _⟩ => ⟨S_, .f32⟩
  | .hbm, ⟨16, _⟩ => ⟨S6x1024x1, .f32⟩
  | .hbm, ⟨17, _⟩ => ⟨S6x1024x1, .f32⟩
  | .hbm, ⟨18, _⟩ => ⟨S6x1024x8, .f32⟩
  | .hbm, ⟨19, _⟩ => ⟨S6x1024x8, .f32⟩
  | .hbm, ⟨20, _⟩ => ⟨S6x1024x8, .bf16⟩
  | .hbm, ⟨21, _⟩ => ⟨S6x8x1024, .f32⟩
  | .hbm, ⟨22, _⟩ => ⟨S6x8x1024, .bf16⟩
  | .hbm, ⟨23, _⟩ => ⟨S6x8192x8, .bf16⟩
  | .hbm, ⟨24, _⟩ => ⟨S6x8x8192, .bf16⟩
  | .hbm, ⟨25, _⟩ => ⟨S6x1x8, .f32⟩
  | .hbm, ⟨26, _⟩ => ⟨S6x1x8192, .f32⟩
  | .hbm, ⟨27, _⟩ => ⟨S512x8192, .f32⟩
  | .hbm, ⟨28, _⟩ => ⟨S8x1, .f32⟩
  | .hbm, ⟨29, _⟩ => ⟨S8, .f32⟩
  | .hbm, ⟨30, _⟩ => ⟨S8x256x128x16, .f32⟩
  | .hbm, ⟨31, _⟩ => ⟨S8x16x256x128, .f32⟩
  | .hbm, ⟨32, _⟩ => ⟨S8x4096x128, .f32⟩
  | .local _ .vmem, ⟨0, _⟩ => ⟨S512x8192, .f32⟩
  | .local _ .vmem, ⟨1, _⟩ => ⟨S6x8192x8, .bf16⟩
  | .local _ .vmem, ⟨2, _⟩ => ⟨S6x1x8, .f32⟩
  | .local _ .vmem, ⟨3, _⟩ => ⟨S6x1024x8, .bf16⟩
  | .local _ .vmem, ⟨4, _⟩ => ⟨S6x8x1024, .bf16⟩
  | .local _ .vmem, ⟨5, _⟩ => ⟨S6x8x8192, .bf16⟩
  | .local _ .vmem, ⟨6, _⟩ => ⟨S6x1x8192, .f32⟩
  | .local _ .vmem, ⟨7, _⟩ => ⟨S512x8192, .f32⟩
  | .local _ .vmem, ⟨8, _⟩ => ⟨S8x1, .f32⟩
  | .local _ .vmem, ⟨9, _⟩ => ⟨S512x8192, .bf16⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S512x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x8192x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x1024x8 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x8x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x8x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S8x4096x128 : Shape := ⟨3, ![8, 4096, 128]⟩
abbrev S6x8192x8 : Shape := ⟨3, ![6, 8192, 8]⟩
abbrev S6x8 : Shape := ⟨2, ![6, 8]⟩
abbrev S6x1024x8 : Shape := ⟨3, ![6, 1024, 8]⟩
abbrev S6x8x8192 : Shape := ⟨3, ![6, 8, 8192]⟩
abbrev S6x8192 : Shape := ⟨2, ![6, 8192]⟩
abbrev S8x16x256x128 : Shape := ⟨4, ![8, 16, 256, 128]⟩
abbrev S8x256x128x16 : Shape := ⟨4, ![8, 256, 128, 16]⟩
abbrev S8x256x2048 : Shape := ⟨3, ![8, 256, 2048]⟩
abbrev S8x64x8192 : Shape := ⟨3, ![8, 64, 8192]⟩
abbrev S_ : Shape := ⟨0, ![]⟩
abbrev S8 : Shape := ⟨1, ![8]⟩
abbrev S1x8192x8 : Shape := ⟨3, ![1, 8192, 8]⟩
abbrev S8192x8 : Shape := ⟨2, ![8192, 8]⟩
abbrev S8x64x8 : Shape := ⟨3, ![8, 64, 8]⟩
abbrev S1x8 : Shape := ⟨2, ![1, 8]⟩
abbrev S1x1x8 : Shape := ⟨3, ![1, 1, 8]⟩
abbrev S8x64 : Shape := ⟨2, ![8, 64]⟩
abbrev S8x64x1 : Shape := ⟨3, ![8, 64, 1]⟩
abbrev S1x1024x8 : Shape := ⟨3, ![1, 1024, 8]⟩
abbrev S1024x8 : Shape := ⟨2, ![1024, 8]⟩
abbrev S1024 : Shape := ⟨1, ![1024]⟩
abbrev S1024x1 : Shape := ⟨2, ![1024, 1]⟩
abbrev S8x1024 : Shape := ⟨2, ![8, 1024]⟩
abbrev S8x64x1024 : Shape := ⟨3, ![8, 64, 1024]⟩
abbrev S1 : Shape := ⟨1, ![1]⟩
abbrev S1x1x1 : Shape := ⟨3, ![1, 1, 1]⟩
abbrev S1x8x8192 : Shape := ⟨3, ![1, 8, 8192]⟩
abbrev S8x8192 : Shape := ⟨2, ![8, 8192]⟩
abbrev S1x8192 : Shape := ⟨2, ![1, 8192]⟩
abbrev S8192 : Shape := ⟨1, ![8192]⟩
abbrev S1x1x8192 : Shape := ⟨3, ![1, 1, 8192]⟩

abbrev nBuf : Space → Nat
  | .hbm => 548
  | .vmem => 0
  | .smem => 0
  | _ => 0

abbrev hbmTy0_0 (i : Nat) : BufTy := match i % 128 with
  | 0 => ⟨S8x4096x128, .f32⟩
  | 1 => ⟨S6x8192x8, .f32⟩
  | 2 => ⟨S6x8, .f32⟩
  | 3 => ⟨S6x1024x8, .f32⟩
  | 4 => ⟨S6x8x8192, .f32⟩
  | 5 => ⟨S6x8192, .f32⟩
  | 6 => ⟨S8x16x256x128, .f32⟩
  | 7 => ⟨S8x256x128x16, .f32⟩
  | 8 => ⟨S8x256x2048, .f32⟩
  | 9 => ⟨S8x64x8192, .f32⟩
  | 10 => ⟨S_, .f32⟩
  | 11 => ⟨S8x64x8192, .f32⟩
  | 12 => ⟨S_, .f32⟩
  | 13 => ⟨S8, .f32⟩
  | 14 => ⟨S_, .f32⟩
  | 15 => ⟨S8, .f32⟩
  | 16 => ⟨S1x8192x8, .f32⟩
  | 17 => ⟨S8192x8, .f32⟩
  | 18 => ⟨S8x64x8, .f32⟩
  | 19 => ⟨S1x8, .f32⟩
  | 20 => ⟨S8, .f32⟩
  | 21 => ⟨S1x1x8, .f32⟩
  | 22 => ⟨S8x64x8, .f32⟩
  | 23 => ⟨S8x64x8, .f32⟩
  | 24 => ⟨S8x64x8, .f32⟩
  | 25 => ⟨S_, .f32⟩
  | 26 => ⟨S8x64, .f32⟩
  | 27 => ⟨S8x64x1, .f32⟩
  | 28 => ⟨S8x64x1, .f32⟩
  | 29 => ⟨S_, .f32⟩
  | 30 => ⟨S8x64x1, .f32⟩
  | 31 => ⟨S8x64x1, .f32⟩
  | 32 => ⟨S8x64x8, .f32⟩
  | 33 => ⟨S8x64x8, .f32⟩
  | 34 => ⟨S1x1024x8, .f32⟩
  | 35 => ⟨S1024x8, .f32⟩
  | 36 => ⟨S1024x8, .f32⟩
  | 37 => ⟨S_, .f32⟩
  | 38 => ⟨S1024, .f32⟩
  | 39 => ⟨S1024x1, .f32⟩
  | 40 => ⟨S1024x1, .f32⟩
  | 41 => ⟨S_, .f32⟩
  | 42 => ⟨S1024x1, .f32⟩
  | 43 => ⟨S1024x1, .f32⟩
  | 44 => ⟨S1024x8, .f32⟩
  | 45 => ⟨S1024x8, .f32⟩
  | 46 => ⟨S8x1024, .f32⟩
  | 47 => ⟨S8x64x1024, .f32⟩
  | 48 => ⟨S8x64x1024, .i32⟩
  | 49 => ⟨S_, .f32⟩
  | 50 => ⟨S_, .i32⟩
  | 51 => ⟨S8x64, .f32⟩
  | 52 => ⟨S8x64, .i32⟩
  | 53 => ⟨S_, .i32⟩
  | 54 => ⟨S8x64, .i32⟩
  | 55 => ⟨S8x64, .i1⟩
  | 56 => ⟨S_, .i32⟩
  | 57 => ⟨S8x64, .i32⟩
  | 58 => ⟨S8x64, .i32⟩
  | 59 => ⟨S8x64, .i32⟩
  | 60 => ⟨S8x64x1, .i32⟩
  | 61 => ⟨S1, .i32⟩
  | 62 => ⟨S_, .i32⟩
  | 63 => ⟨S8x64x1, .i32⟩
  | 64 => ⟨S8x64x1, .i1⟩
  | 65 => ⟨S1x1x1, .i32⟩
  | 66 => ⟨S8x64x1, .i32⟩
  | 67 => ⟨S8x64x1, .i1⟩
  | 68 => ⟨S8x64x1, .i1⟩
  | 69 => ⟨S_, .i1⟩
  | 70 => ⟨S8x64, .i1⟩
  | 71 => ⟨S8x64x8, .f32⟩
  | 72 => ⟨S8x64x8, .i1⟩
  | 73 => ⟨S_, .f32⟩
  | 74 => ⟨S8x64x8, .f32⟩
  | 75 => ⟨S8x64x8, .f32⟩
  | 76 => ⟨S8x64x8, .f32⟩
  | 77 => ⟨S8x64x8, .f32⟩
  | 78 => ⟨S_, .f32⟩
  | 79 => ⟨S8, .f32⟩
  | 80 => ⟨S_, .f32⟩
  | 81 => ⟨S8, .f32⟩
  | 82 => ⟨S8, .f32⟩
  | 83 => ⟨S8x64x8, .f32⟩
  | 84 => ⟨S8x64x8, .f32⟩
  | 85 => ⟨S_, .f32⟩
  | 86 => ⟨S8, .f32⟩
  | 87 => ⟨S_, .f32⟩
  | 88 => ⟨S8, .f32⟩
  | 89 => ⟨S8, .f32⟩
  | 90 => ⟨S8x64x8, .f32⟩
  | 91 => ⟨S8x64x8, .f32⟩
  | 92 => ⟨S1x8x8192, .f32⟩
  | 93 => ⟨S8x8192, .f32⟩
  | 94 => ⟨S8x64x8192, .f32⟩
  | 95 => ⟨S1x8192, .f32⟩
  | 96 => ⟨S8192, .f32⟩
  | 97 => ⟨S1x1x8192, .f32⟩
  | 98 => ⟨S8x64x8192, .f32⟩
  | 99 => ⟨S8x64x8192, .f32⟩
  | 100 => ⟨S8x64x8192, .f32⟩
  | 101 => ⟨S8x64x8192, .f32⟩
  | 102 => ⟨S8, .f32⟩
  | 103 => ⟨S8, .f32⟩
  | 104 => ⟨S1x8192x8, .f32⟩
  | 105 => ⟨S8192x8, .f32⟩
  | 106 => ⟨S8x64x8, .f32⟩
  | 107 => ⟨S1x8, .f32⟩
  | 108 => ⟨S8, .f32⟩
  | 109 => ⟨S1x1x8, .f32⟩
  | 110 => ⟨S8x64x8, .f32⟩
  | 111 => ⟨S8x64x8, .f32⟩
  | 112 => ⟨S8x64x8, .f32⟩
  | 113 => ⟨S_, .f32⟩
  | 114 => ⟨S8x64, .f32⟩
  | 115 => ⟨S8x64x1, .f32⟩
  | 116 => ⟨S8x64x1, .f32⟩
  | 117 => ⟨S_, .f32⟩
  | 118 => ⟨S8x64x1, .f32⟩
  | 119 => ⟨S8x64x1, .f32⟩
  | 120 => ⟨S8x64x8, .f32⟩
  | 121 => ⟨S8x64x8, .f32⟩
  | 122 => ⟨S1x1024x8, .f32⟩
  | 123 => ⟨S1024x8, .f32⟩
  | 124 => ⟨S1024x8, .f32⟩
  | 125 => ⟨S_, .f32⟩
  | 126 => ⟨S1024, .f32⟩
  | 127 => ⟨S1024x1, .f32⟩
  | _ => ⟨S8x4096x128, .f32⟩

abbrev hbmTy0_1 (i : Nat) : BufTy := match i % 128 with
  | 0 => ⟨S1024x1, .f32⟩
  | 1 => ⟨S_, .f32⟩
  | 2 => ⟨S1024x1, .f32⟩
  | 3 => ⟨S1024x1, .f32⟩
  | 4 => ⟨S1024x8, .f32⟩
  | 5 => ⟨S1024x8, .f32⟩
  | 6 => ⟨S8x1024, .f32⟩
  | 7 => ⟨S8x64x1024, .f32⟩
  | 8 => ⟨S8x64x1024, .i32⟩
  | 9 => ⟨S_, .f32⟩
  | 10 => ⟨S_, .i32⟩
  | 11 => ⟨S8x64, .f32⟩
  | 12 => ⟨S8x64, .i32⟩
  | 13 => ⟨S_, .i32⟩
  | 14 => ⟨S8x64, .i32⟩
  | 15 => ⟨S8x64, .i1⟩
  | 16 => ⟨S_, .i32⟩
  | 17 => ⟨S8x64, .i32⟩
  | 18 => ⟨S8x64, .i32⟩
  | 19 => ⟨S8x64, .i32⟩
  | 20 => ⟨S8x64x1, .i32⟩
  | 21 => ⟨S1, .i32⟩
  | 22 => ⟨S_, .i32⟩
  | 23 => ⟨S8x64x1, .i32⟩
  | 24 => ⟨S8x64x1, .i1⟩
  | 25 => ⟨S1x1x1, .i32⟩
  | 26 => ⟨S8x64x1, .i32⟩
  | 27 => ⟨S8x64x1, .i1⟩
  | 28 => ⟨S8x64x1, .i1⟩
  | 29 => ⟨S_, .i1⟩
  | 30 => ⟨S8x64, .i1⟩
  | 31 => ⟨S8x64x8, .f32⟩
  | 32 => ⟨S8x64x8, .i1⟩
  | 33 => ⟨S_, .f32⟩
  | 34 => ⟨S8x64x8, .f32⟩
  | 35 => ⟨S8x64x8, .f32⟩
  | 36 => ⟨S8x64x8, .f32⟩
  | 37 => ⟨S8x64x8, .f32⟩
  | 38 => ⟨S_, .f32⟩
  | 39 => ⟨S8, .f32⟩
  | 40 => ⟨S_, .f32⟩
  | 41 => ⟨S8, .f32⟩
  | 42 => ⟨S8, .f32⟩
  | 43 => ⟨S8x64x8, .f32⟩
  | 44 => ⟨S8x64x8, .f32⟩
  | 45 => ⟨S_, .f32⟩
  | 46 => ⟨S8, .f32⟩
  | 47 => ⟨S_, .f32⟩
  | 48 => ⟨S8, .f32⟩
  | 49 => ⟨S8, .f32⟩
  | 50 => ⟨S8x64x8, .f32⟩
  | 51 => ⟨S8x64x8, .f32⟩
  | 52 => ⟨S1x8x8192, .f32⟩
  | 53 => ⟨S8x8192, .f32⟩
  | 54 => ⟨S8x64x8192, .f32⟩
  | 55 => ⟨S1x8192, .f32⟩
  | 56 => ⟨S8192, .f32⟩
  | 57 => ⟨S1x1x8192, .f32⟩
  | 58 => ⟨S8x64x8192, .f32⟩
  | 59 => ⟨S8x64x8192, .f32⟩
  | 60 => ⟨S8x64x8192, .f32⟩
  | 61 => ⟨S8x64x8192, .f32⟩
  | 62 => ⟨S8, .f32⟩
  | 63 => ⟨S8, .f32⟩
  | 64 => ⟨S1x8192x8, .f32⟩
  | 65 => ⟨S8192x8, .f32⟩
  | 66 => ⟨S8x64x8, .f32⟩
  | 67 => ⟨S1x8, .f32⟩
  | 68 => ⟨S8, .f32⟩
  | 69 => ⟨S1x1x8, .f32⟩
  | 70 => ⟨S8x64x8, .f32⟩
  | 71 => ⟨S8x64x8, .f32⟩
  | 72 => ⟨S8x64x8, .f32⟩
  | 73 => ⟨S_, .f32⟩
  | 74 => ⟨S8x64, .f32⟩
  | 75 => ⟨S8x64x1, .f32⟩
  | 76 => ⟨S8x64x1, .f32⟩
  | 77 => ⟨S_, .f32⟩
  | 78 => ⟨S8x64x1, .f32⟩
  | 79 => ⟨S8x64x1, .f32⟩
  | 80 => ⟨S8x64x8, .f32⟩
  | 81 => ⟨S8x64x8, .f32⟩
  | 82 => ⟨S1x1024x8, .f32⟩
  | 83 => ⟨S1024x8, .f32⟩
  | 84 => ⟨S1024x8, .f32⟩
  | 85 => ⟨S_, .f32⟩
  | 86 => ⟨S1024, .f32⟩
  | 87 => ⟨S1024x1, .f32⟩
  | 88 => ⟨S1024x1, .f32⟩
  | 89 => ⟨S_, .f32⟩
  | 90 => ⟨S1024x1, .f32⟩
  | 91 => ⟨S1024x1, .f32⟩
  | 92 => ⟨S1024x8, .f32⟩
  | 93 => ⟨S1024x8, .f32⟩
  | 94 => ⟨S8x1024, .f32⟩
  | 95 => ⟨S8x64x1024, .f32⟩
  | 96 => ⟨S8x64x1024, .i32⟩
  | 97 => ⟨S_, .f32⟩
  | 98 => ⟨S_, .i32⟩
  | 99 => ⟨S8x64, .f32⟩
  | 100 => ⟨S8x64, .i32⟩
  | 101 => ⟨S_, .i32⟩
  | 102 => ⟨S8x64, .i32⟩
  | 103 => ⟨S8x64, .i1⟩
  | 104 => ⟨S_, .i32⟩
  | 105 => ⟨S8x64, .i32⟩
  | 106 => ⟨S8x64, .i32⟩
  | 107 => ⟨S8x64, .i32⟩
  | 108 => ⟨S8x64x1, .i32⟩
  | 109 => ⟨S1, .i32⟩
  | 110 => ⟨S_, .i32⟩
  | 111 => ⟨S8x64x1, .i32⟩
  | 112 => ⟨S8x64x1, .i1⟩
  | 113 => ⟨S1x1x1, .i32⟩
  | 114 => ⟨S8x64x1, .i32⟩
  | 115 => ⟨S8x64x1, .i1⟩
  | 116 => ⟨S8x64x1, .i1⟩
  | 117 => ⟨S_, .i1⟩
  | 118 => ⟨S8x64, .i1⟩
  | 119 => ⟨S8x64x8, .f32⟩
  | 120 => ⟨S8x64x8, .i1⟩
  | 121 => ⟨S_, .f32⟩
  | 122 => ⟨S8x64x8, .f32⟩
  | 123 => ⟨S8x64x8, .f32⟩
  | 124 => ⟨S8x64x8, .f32⟩
  | 125 => ⟨S8x64x8, .f32⟩
  | 126 => ⟨S_, .f32⟩
  | 127 => ⟨S8, .f32⟩
  | _ => ⟨S8x4096x128, .f32⟩

abbrev hbmTy0_2 (i : Nat) : BufTy := match i % 128 with
  | 0 => ⟨S_, .f32⟩
  | 1 => ⟨S8, .f32⟩
  | 2 => ⟨S8, .f32⟩
  | 3 => ⟨S8x64x8, .f32⟩
  | 4 => ⟨S8x64x8, .f32⟩
  | 5 => ⟨S_, .f32⟩
  | 6 => ⟨S8, .f32⟩
  | 7 => ⟨S_, .f32⟩
  | 8 => ⟨S8, .f32⟩
  | 9 => ⟨S8, .f32⟩
  | 10 => ⟨S8x64x8, .f32⟩
  | 11 => ⟨S8x64x8, .f32⟩
  | 12 => ⟨S1x8x8192, .f32⟩
  | 13 => ⟨S8x8192, .f32⟩
  | 14 => ⟨S8x64x8192, .f32⟩
  | 15 => ⟨S1x8192, .f32⟩
  | 16 => ⟨S8192, .f32⟩
  | 17 => ⟨S1x1x8192, .f32⟩
  | 18 => ⟨S8x64x8192, .f32⟩
  | 19 => ⟨S8x64x8192, .f32⟩
  | 20 => ⟨S8x64x8192, .f32⟩
  | 21 => ⟨S8x64x8192, .f32⟩
  | 22 => ⟨S8, .f32⟩
  | 23 => ⟨S8, .f32⟩
  | 24 => ⟨S1x8192x8, .f32⟩
  | 25 => ⟨S8192x8, .f32⟩
  | 26 => ⟨S8x64x8, .f32⟩
  | 27 => ⟨S1x8, .f32⟩
  | 28 => ⟨S8, .f32⟩
  | 29 => ⟨S1x1x8, .f32⟩
  | 30 => ⟨S8x64x8, .f32⟩
  | 31 => ⟨S8x64x8, .f32⟩
  | 32 => ⟨S8x64x8, .f32⟩
  | 33 => ⟨S_, .f32⟩
  | 34 => ⟨S8x64, .f32⟩
  | 35 => ⟨S8x64x1, .f32⟩
  | 36 => ⟨S8x64x1, .f32⟩
  | 37 => ⟨S_, .f32⟩
  | 38 => ⟨S8x64x1, .f32⟩
  | 39 => ⟨S8x64x1, .f32⟩
  | 40 => ⟨S8x64x8, .f32⟩
  | 41 => ⟨S8x64x8, .f32⟩
  | 42 => ⟨S1x1024x8, .f32⟩
  | 43 => ⟨S1024x8, .f32⟩
  | 44 => ⟨S1024x8, .f32⟩
  | 45 => ⟨S_, .f32⟩
  | 46 => ⟨S1024, .f32⟩
  | 47 => ⟨S1024x1, .f32⟩
  | 48 => ⟨S1024x1, .f32⟩
  | 49 => ⟨S_, .f32⟩
  | 50 => ⟨S1024x1, .f32⟩
  | 51 => ⟨S1024x1, .f32⟩
  | 52 => ⟨S1024x8, .f32⟩
  | 53 => ⟨S1024x8, .f32⟩
  | 54 => ⟨S8x1024, .f32⟩
  | 55 => ⟨S8x64x1024, .f32⟩
  | 56 => ⟨S8x64x1024, .i32⟩
  | 57 => ⟨S_, .f32⟩
  | 58 => ⟨S_, .i32⟩
  | 59 => ⟨S8x64, .f32⟩
  | 60 => ⟨S8x64, .i32⟩
  | 61 => ⟨S_, .i32⟩
  | 62 => ⟨S8x64, .i32⟩
  | 63 => ⟨S8x64, .i1⟩
  | 64 => ⟨S_, .i32⟩
  | 65 => ⟨S8x64, .i32⟩
  | 66 => ⟨S8x64, .i32⟩
  | 67 => ⟨S8x64, .i32⟩
  | 68 => ⟨S8x64x1, .i32⟩
  | 69 => ⟨S1, .i32⟩
  | 70 => ⟨S_, .i32⟩
  | 71 => ⟨S8x64x1, .i32⟩
  | 72 => ⟨S8x64x1, .i1⟩
  | 73 => ⟨S1x1x1, .i32⟩
  | 74 => ⟨S8x64x1, .i32⟩
  | 75 => ⟨S8x64x1, .i1⟩
  | 76 => ⟨S8x64x1, .i1⟩
  | 77 => ⟨S_, .i1⟩
  | 78 => ⟨S8x64, .i1⟩
  | 79 => ⟨S8x64x8, .f32⟩
  | 80 => ⟨S8x64x8, .i1⟩
  | 81 => ⟨S_, .f32⟩
  | 82 => ⟨S8x64x8, .f32⟩
  | 83 => ⟨S8x64x8, .f32⟩
  | 84 => ⟨S8x64x8, .f32⟩
  | 85 => ⟨S8x64x8, .f32⟩
  | 86 => ⟨S_, .f32⟩
  | 87 => ⟨S8, .f32⟩
  | 88 => ⟨S_, .f32⟩
  | 89 => ⟨S8, .f32⟩
  | 90 => ⟨S8, .f32⟩
  | 91 => ⟨S8x64x8, .f32⟩
  | 92 => ⟨S8x64x8, .f32⟩
  | 93 => ⟨S_, .f32⟩
  | 94 => ⟨S8, .f32⟩
  | 95 => ⟨S_, .f32⟩
  | 96 => ⟨S8, .f32⟩
  | 97 => ⟨S8, .f32⟩
  | 98 => ⟨S8x64x8, .f32⟩
  | 99 => ⟨S8x64x8, .f32⟩
  | 100 => ⟨S1x8x8192, .f32⟩
  | 101 => ⟨S8x8192, .f32⟩
  | 102 => ⟨S8x64x8192, .f32⟩
  | 103 => ⟨S1x8192, .f32⟩
  | 104 => ⟨S8192, .f32⟩
  | 105 => ⟨S1x1x8192, .f32⟩
  | 106 => ⟨S8x64x8192, .f32⟩
  | 107 => ⟨S8x64x8192, .f32⟩
  | 108 => ⟨S8x64x8192, .f32⟩
  | 109 => ⟨S8x64x8192, .f32⟩
  | 110 => ⟨S8, .f32⟩
  | 111 => ⟨S8, .f32⟩
  | 112 => ⟨S1x8192x8, .f32⟩
  | 113 => ⟨S8192x8, .f32⟩
  | 114 => ⟨S8x64x8, .f32⟩
  | 115 => ⟨S1x8, .f32⟩
  | 116 => ⟨S8, .f32⟩
  | 117 => ⟨S1x1x8, .f32⟩
  | 118 => ⟨S8x64x8, .f32⟩
  | 119 => ⟨S8x64x8, .f32⟩
  | 120 => ⟨S8x64x8, .f32⟩
  | 121 => ⟨S_, .f32⟩
  | 122 => ⟨S8x64, .f32⟩
  | 123 => ⟨S8x64x1, .f32⟩
  | 124 => ⟨S8x64x1, .f32⟩
  | 125 => ⟨S_, .f32⟩
  | 126 => ⟨S8x64x1, .f32⟩
  | 127 => ⟨S8x64x1, .f32⟩
  | _ => ⟨S8x4096x128, .f32⟩

abbrev hbmTy0_3 (i : Nat) : BufTy := match i % 128 with
  | 0 => ⟨S8x64x8, .f32⟩
  | 1 => ⟨S8x64x8, .f32⟩
  | 2 => ⟨S1x1024x8, .f32⟩
  | 3 => ⟨S1024x8, .f32⟩
  | 4 => ⟨S1024x8, .f32⟩
  | 5 => ⟨S_, .f32⟩
  | 6 => ⟨S1024, .f32⟩
  | 7 => ⟨S1024x1, .f32⟩
  | 8 => ⟨S1024x1, .f32⟩
  | 9 => ⟨S_, .f32⟩
  | 10 => ⟨S1024x1, .f32⟩
  | 11 => ⟨S1024x1, .f32⟩
  | 12 => ⟨S1024x8, .f32⟩
  | 13 => ⟨S1024x8, .f32⟩
  | 14 => ⟨S8x1024, .f32⟩
  | 15 => ⟨S8x64x1024, .f32⟩
  | 16 => ⟨S8x64x1024, .i32⟩
  | 17 => ⟨S_, .f32⟩
  | 18 => ⟨S_, .i32⟩
  | 19 => ⟨S8x64, .f32⟩
  | 20 => ⟨S8x64, .i32⟩
  | 21 => ⟨S_, .i32⟩
  | 22 => ⟨S8x64, .i32⟩
  | 23 => ⟨S8x64, .i1⟩
  | 24 => ⟨S_, .i32⟩
  | 25 => ⟨S8x64, .i32⟩
  | 26 => ⟨S8x64, .i32⟩
  | 27 => ⟨S8x64, .i32⟩
  | 28 => ⟨S8x64x1, .i32⟩
  | 29 => ⟨S1, .i32⟩
  | 30 => ⟨S_, .i32⟩
  | 31 => ⟨S8x64x1, .i32⟩
  | 32 => ⟨S8x64x1, .i1⟩
  | 33 => ⟨S1x1x1, .i32⟩
  | 34 => ⟨S8x64x1, .i32⟩
  | 35 => ⟨S8x64x1, .i1⟩
  | 36 => ⟨S8x64x1, .i1⟩
  | 37 => ⟨S_, .i1⟩
  | 38 => ⟨S8x64, .i1⟩
  | 39 => ⟨S8x64x8, .f32⟩
  | 40 => ⟨S8x64x8, .i1⟩
  | 41 => ⟨S_, .f32⟩
  | 42 => ⟨S8x64x8, .f32⟩
  | 43 => ⟨S8x64x8, .f32⟩
  | 44 => ⟨S8x64x8, .f32⟩
  | 45 => ⟨S8x64x8, .f32⟩
  | 46 => ⟨S_, .f32⟩
  | 47 => ⟨S8, .f32⟩
  | 48 => ⟨S_, .f32⟩
  | 49 => ⟨S8, .f32⟩
  | 50 => ⟨S8, .f32⟩
  | 51 => ⟨S8x64x8, .f32⟩
  | 52 => ⟨S8x64x8, .f32⟩
  | 53 => ⟨S_, .f32⟩
  | 54 => ⟨S8, .f32⟩
  | 55 => ⟨S_, .f32⟩
  | 56 => ⟨S8, .f32⟩
  | 57 => ⟨S8, .f32⟩
  | 58 => ⟨S8x64x8, .f32⟩
  | 59 => ⟨S8x64x8, .f32⟩
  | 60 => ⟨S1x8x8192, .f32⟩
  | 61 => ⟨S8x8192, .f32⟩
  | 62 => ⟨S8x64x8192, .f32⟩
  | 63 => ⟨S1x8192, .f32⟩
  | 64 => ⟨S8192, .f32⟩
  | 65 => ⟨S1x1x8192, .f32⟩
  | 66 => ⟨S8x64x8192, .f32⟩
  | 67 => ⟨S8x64x8192, .f32⟩
  | 68 => ⟨S8x64x8192, .f32⟩
  | 69 => ⟨S8x64x8192, .f32⟩
  | 70 => ⟨S8, .f32⟩
  | 71 => ⟨S8, .f32⟩
  | 72 => ⟨S1x8192x8, .f32⟩
  | 73 => ⟨S8192x8, .f32⟩
  | 74 => ⟨S8x64x8, .f32⟩
  | 75 => ⟨S1x8, .f32⟩
  | 76 => ⟨S8, .f32⟩
  | 77 => ⟨S1x1x8, .f32⟩
  | 78 => ⟨S8x64x8, .f32⟩
  | 79 => ⟨S8x64x8, .f32⟩
  | 80 => ⟨S8x64x8, .f32⟩
  | 81 => ⟨S_, .f32⟩
  | 82 => ⟨S8x64, .f32⟩
  | 83 => ⟨S8x64x1, .f32⟩
  | 84 => ⟨S8x64x1, .f32⟩
  | 85 => ⟨S_, .f32⟩
  | 86 => ⟨S8x64x1, .f32⟩
  | 87 => ⟨S8x64x1, .f32⟩
  | 88 => ⟨S8x64x8, .f32⟩
  | 89 => ⟨S8x64x8, .f32⟩
  | 90 => ⟨S1x1024x8, .f32⟩
  | 91 => ⟨S1024x8, .f32⟩
  | 92 => ⟨S1024x8, .f32⟩
  | 93 => ⟨S_, .f32⟩
  | 94 => ⟨S1024, .f32⟩
  | 95 => ⟨S1024x1, .f32⟩
  | 96 => ⟨S1024x1, .f32⟩
  | 97 => ⟨S_, .f32⟩
  | 98 => ⟨S1024x1, .f32⟩
  | 99 => ⟨S1024x1, .f32⟩
  | 100 => ⟨S1024x8, .f32⟩
  | 101 => ⟨S1024x8, .f32⟩
  | 102 => ⟨S8x1024, .f32⟩
  | 103 => ⟨S8x64x1024, .f32⟩
  | 104 => ⟨S8x64x1024, .i32⟩
  | 105 => ⟨S_, .f32⟩
  | 106 => ⟨S_, .i32⟩
  | 107 => ⟨S8x64, .f32⟩
  | 108 => ⟨S8x64, .i32⟩
  | 109 => ⟨S_, .i32⟩
  | 110 => ⟨S8x64, .i32⟩
  | 111 => ⟨S8x64, .i1⟩
  | 112 => ⟨S_, .i32⟩
  | 113 => ⟨S8x64, .i32⟩
  | 114 => ⟨S8x64, .i32⟩
  | 115 => ⟨S8x64, .i32⟩
  | 116 => ⟨S8x64x1, .i32⟩
  | 117 => ⟨S1, .i32⟩
  | 118 => ⟨S_, .i32⟩
  | 119 => ⟨S8x64x1, .i32⟩
  | 120 => ⟨S8x64x1, .i1⟩
  | 121 => ⟨S1x1x1, .i32⟩
  | 122 => ⟨S8x64x1, .i32⟩
  | 123 => ⟨S8x64x1, .i1⟩
  | 124 => ⟨S8x64x1, .i1⟩
  | 125 => ⟨S_, .i1⟩
  | 126 => ⟨S8x64, .i1⟩
  | 127 => ⟨S8x64x8, .f32⟩
  | _ => ⟨S8x4096x128, .f32⟩

abbrev hbmTy0_4 (i : Nat) : BufTy := match i % 128 with
  | 0 => ⟨S8x64x8, .i1⟩
  | 1 => ⟨S_, .f32⟩
  | 2 => ⟨S8x64x8, .f32⟩
  | 3 => ⟨S8x64x8, .f32⟩
  | 4 => ⟨S8x64x8, .f32⟩
  | 5 => ⟨S8x64x8, .f32⟩
  | 6 => ⟨S_, .f32⟩
  | 7 => ⟨S8, .f32⟩
  | 8 => ⟨S_, .f32⟩
  | 9 => ⟨S8, .f32⟩
  | 10 => ⟨S8, .f32⟩
  | 11 => ⟨S8x64x8, .f32⟩
  | 12 => ⟨S8x64x8, .f32⟩
  | 13 => ⟨S_, .f32⟩
  | 14 => ⟨S8, .f32⟩
  | 15 => ⟨S_, .f32⟩
  | 16 => ⟨S8, .f32⟩
  | 17 => ⟨S8, .f32⟩
  | 18 => ⟨S8x64x8, .f32⟩
  | 19 => ⟨S8x64x8, .f32⟩
  | 20 => ⟨S1x8x8192, .f32⟩
  | 21 => ⟨S8x8192, .f32⟩
  | 22 => ⟨S8x64x8192, .f32⟩
  | 23 => ⟨S1x8192, .f32⟩
  | 24 => ⟨S8192, .f32⟩
  | 25 => ⟨S1x1x8192, .f32⟩
  | 26 => ⟨S8x64x8192, .f32⟩
  | 27 => ⟨S8x64x8192, .f32⟩
  | 28 => ⟨S8x64x8192, .f32⟩
  | 29 => ⟨S8x64x8192, .f32⟩
  | 30 => ⟨S8, .f32⟩
  | 31 => ⟨S8, .f32⟩
  | 32 => ⟨S8x256x2048, .f32⟩
  | 33 => ⟨S8x256x128x16, .f32⟩
  | 34 => ⟨S8x16x256x128, .f32⟩
  | 35 => ⟨S8x4096x128, .f32⟩
  | _ => ⟨S8x4096x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x4096x128, .f32⟩

abbrev bufTy : (tb : Table) → Fin (tcTables nBuf tb) → BufTy
  | .hbm, ⟨i, _⟩ => hbmTy i
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_cst : Ref sig .tc := ⟨.hbm, 25, rfl⟩
abbrev main_call0_v1 : Ref sig .tc := ⟨.hbm, 26, rfl⟩
abbrev main_call0_v2 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call1_v0 : Ref sig .tc := ⟨.hbm, 36, rfl⟩
abbrev main_call1_cst : Ref sig .tc := ⟨.hbm, 37, rfl⟩
abbrev main_call1_v1 : Ref sig .tc := ⟨.hbm, 38, rfl⟩
abbrev main_call1_v2 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call2_v0 : Ref sig .tc := ⟨.hbm, 48, rfl⟩
abbrev main_call2_cst : Ref sig .tc := ⟨.hbm, 49, rfl⟩
abbrev main_call2_c : Ref sig .tc := ⟨.hbm, 50, rfl⟩
abbrev main_call2_v1_0 : Ref sig .tc := ⟨.hbm, 51, rfl⟩
abbrev main_v29 : Ref sig .tc := ⟨.hbm, 52, rfl⟩
abbrev main_call3_c : Ref sig .tc := ⟨.hbm, 53, rfl⟩
abbrev main_call3_v0 : Ref sig .tc := ⟨.hbm, 54, rfl⟩
abbrev main_call3_v1 : Ref sig .tc := ⟨.hbm, 55, rfl⟩
abbrev main_call3_c_0 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_v5 : Ref sig .tc := ⟨.hbm, 60, rfl⟩
abbrev main_call3_c_1 : Ref sig .tc := ⟨.hbm, 61, rfl⟩
abbrev main_call3_c_2 : Ref sig .tc := ⟨.hbm, 62, rfl⟩
abbrev main_call3_v6 : Ref sig .tc := ⟨.hbm, 63, rfl⟩
abbrev main_call3_v7 : Ref sig .tc := ⟨.hbm, 64, rfl⟩
abbrev main_call3_v8 : Ref sig .tc := ⟨.hbm, 65, rfl⟩
abbrev main_call3_v9 : Ref sig .tc := ⟨.hbm, 66, rfl⟩
abbrev main_call3_v10 : Ref sig .tc := ⟨.hbm, 67, rfl⟩
abbrev main_call3_v11 : Ref sig .tc := ⟨.hbm, 68, rfl⟩
abbrev main_call3_c_3 : Ref sig .tc := ⟨.hbm, 69, rfl⟩
abbrev main_call3_v12 : Ref sig .tc := ⟨.hbm, 70, rfl⟩
abbrev main_call3_v13 : Ref sig .tc := ⟨.hbm, 71, rfl⟩
abbrev main_call3_v14 : Ref sig .tc := ⟨.hbm, 72, rfl⟩
abbrev main_call3_cst : Ref sig .tc := ⟨.hbm, 73, rfl⟩
abbrev main_call3_v15 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_cst_4 : Ref sig .tc := ⟨.hbm, 78, rfl⟩
abbrev main_v33 : Ref sig .tc := ⟨.hbm, 79, rfl⟩
abbrev main_cst_5 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_cst_6 : Ref sig .tc := ⟨.hbm, 85, rfl⟩
abbrev main_v38 : Ref sig .tc := ⟨.hbm, 86, rfl⟩
abbrev main_cst_7 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_call4_v0 : Ref sig .tc := ⟨.hbm, 112, rfl⟩
abbrev main_call4_cst : Ref sig .tc := ⟨.hbm, 113, rfl⟩
abbrev main_call4_v1 : Ref sig .tc := ⟨.hbm, 114, rfl⟩
abbrev main_call4_v2 : Ref sig .tc := ⟨.hbm, 115, rfl⟩
abbrev main_v63 : Ref sig .tc := ⟨.hbm, 116, rfl⟩
abbrev main_cst_8 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_call5_v0 : Ref sig .tc := ⟨.hbm, 124, rfl⟩
abbrev main_call5_cst : Ref sig .tc := ⟨.hbm, 125, rfl⟩
abbrev main_call5_v1 : Ref sig .tc := ⟨.hbm, 126, rfl⟩
abbrev main_call5_v2 : Ref sig .tc := ⟨.hbm, 127, rfl⟩
abbrev main_v70 : Ref sig .tc := ⟨.hbm, 128, rfl⟩
abbrev main_cst_9 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_call6_v0 : Ref sig .tc := ⟨.hbm, 136, rfl⟩
abbrev main_call6_cst : Ref sig .tc := ⟨.hbm, 137, rfl⟩
abbrev main_call6_c : Ref sig .tc := ⟨.hbm, 138, rfl⟩
abbrev main_call6_v1_0 : Ref sig .tc := ⟨.hbm, 139, rfl⟩
abbrev main_v77 : Ref sig .tc := ⟨.hbm, 140, rfl⟩
abbrev main_call7_c : Ref sig .tc := ⟨.hbm, 141, rfl⟩
abbrev main_call7_v0 : Ref sig .tc := ⟨.hbm, 142, rfl⟩
abbrev main_call7_v1 : Ref sig .tc := ⟨.hbm, 143, rfl⟩
abbrev main_call7_c_0 : Ref sig .tc := ⟨.hbm, 144, rfl⟩
abbrev main_call7_v2 : Ref sig .tc := ⟨.hbm, 145, rfl⟩
abbrev main_call7_v3 : Ref sig .tc := ⟨.hbm, 146, rfl⟩
abbrev main_call7_v4 : Ref sig .tc := ⟨.hbm, 147, rfl⟩
abbrev main_call7_v5 : Ref sig .tc := ⟨.hbm, 148, rfl⟩
abbrev main_call7_c_1 : Ref sig .tc := ⟨.hbm, 149, rfl⟩
abbrev main_call7_c_2 : Ref sig .tc := ⟨.hbm, 150, rfl⟩
abbrev main_call7_v6 : Ref sig .tc := ⟨.hbm, 151, rfl⟩
abbrev main_call7_v7 : Ref sig .tc := ⟨.hbm, 152, rfl⟩
abbrev main_call7_v8 : Ref sig .tc := ⟨.hbm, 153, rfl⟩
abbrev main_call7_v9 : Ref sig .tc := ⟨.hbm, 154, rfl⟩
abbrev main_call7_v10 : Ref sig .tc := ⟨.hbm, 155, rfl⟩
abbrev main_call7_v11 : Ref sig .tc := ⟨.hbm, 156, rfl⟩
abbrev main_call7_c_3 : Ref sig .tc := ⟨.hbm, 157, rfl⟩
abbrev main_call7_v12 : Ref sig .tc := ⟨.hbm, 158, rfl⟩
abbrev main_call7_v13 : Ref sig .tc := ⟨.hbm, 159, rfl⟩
abbrev main_call7_v14 : Ref sig .tc := ⟨.hbm, 160, rfl⟩
abbrev main_call7_cst : Ref sig .tc := ⟨.hbm, 161, rfl⟩
abbrev main_call7_v15 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_cst_10 : Ref sig .tc := ⟨.hbm, 166, rfl⟩
abbrev main_v81 : Ref sig .tc := ⟨.hbm, 167, rfl⟩
abbrev main_cst_11 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_cst_12 : Ref sig .tc := ⟨.hbm, 173, rfl⟩
abbrev main_v86 : Ref sig .tc := ⟨.hbm, 174, rfl⟩
abbrev main_cst_13 : Ref sig .tc := ⟨.hbm, 175, rfl⟩
abbrev main_v87 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_v95 : Ref sig .tc := ⟨.hbm, 184, rfl⟩
abbrev main_v96 : Ref sig .tc := ⟨.hbm, 185, rfl⟩
abbrev main_v97 : Ref sig .tc := ⟨.hbm, 186, rfl⟩
abbrev main_v98 : Ref sig .tc := ⟨.hbm, 187, rfl⟩
abbrev main_v99 : Ref sig .tc := ⟨.hbm, 188, rfl⟩
abbrev main_v100 : Ref sig .tc := ⟨.hbm, 189, rfl⟩
abbrev main_v101 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_v105 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_call8_v0 : Ref sig .tc := ⟨.hbm, 200, rfl⟩
abbrev main_call8_cst : Ref sig .tc := ⟨.hbm, 201, rfl⟩
abbrev main_call8_v1 : Ref sig .tc := ⟨.hbm, 202, rfl⟩
abbrev main_call8_v2 : Ref sig .tc := ⟨.hbm, 203, rfl⟩
abbrev main_v111 : Ref sig .tc := ⟨.hbm, 204, rfl⟩
abbrev main_cst_14 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_call9_v0 : Ref sig .tc := ⟨.hbm, 212, rfl⟩
abbrev main_call9_cst : Ref sig .tc := ⟨.hbm, 213, rfl⟩
abbrev main_call9_v1 : Ref sig .tc := ⟨.hbm, 214, rfl⟩
abbrev main_call9_v2 : Ref sig .tc := ⟨.hbm, 215, rfl⟩
abbrev main_v118 : Ref sig .tc := ⟨.hbm, 216, rfl⟩
abbrev main_cst_15 : Ref sig .tc := ⟨.hbm, 217, rfl⟩
abbrev main_v119 : Ref sig .tc := ⟨.hbm, 218, rfl⟩
abbrev main_v120 : Ref sig .tc := ⟨.hbm, 219, rfl⟩
abbrev main_v121 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_call10_v0 : Ref sig .tc := ⟨.hbm, 224, rfl⟩
abbrev main_call10_cst : Ref sig .tc := ⟨.hbm, 225, rfl⟩
abbrev main_call10_c : Ref sig .tc := ⟨.hbm, 226, rfl⟩
abbrev main_call10_v1_0 : Ref sig .tc := ⟨.hbm, 227, rfl⟩
abbrev main_v125 : Ref sig .tc := ⟨.hbm, 228, rfl⟩
abbrev main_call11_c : Ref sig .tc := ⟨.hbm, 229, rfl⟩
abbrev main_call11_v0 : Ref sig .tc := ⟨.hbm, 230, rfl⟩
abbrev main_call11_v1 : Ref sig .tc := ⟨.hbm, 231, rfl⟩
abbrev main_call11_c_0 : Ref sig .tc := ⟨.hbm, 232, rfl⟩
abbrev main_call11_v2 : Ref sig .tc := ⟨.hbm, 233, rfl⟩
abbrev main_call11_v3 : Ref sig .tc := ⟨.hbm, 234, rfl⟩
abbrev main_call11_v4 : Ref sig .tc := ⟨.hbm, 235, rfl⟩
abbrev main_call11_v5 : Ref sig .tc := ⟨.hbm, 236, rfl⟩
abbrev main_call11_c_1 : Ref sig .tc := ⟨.hbm, 237, rfl⟩
abbrev main_call11_c_2 : Ref sig .tc := ⟨.hbm, 238, rfl⟩
abbrev main_call11_v6 : Ref sig .tc := ⟨.hbm, 239, rfl⟩
abbrev main_call11_v7 : Ref sig .tc := ⟨.hbm, 240, rfl⟩
abbrev main_call11_v8 : Ref sig .tc := ⟨.hbm, 241, rfl⟩
abbrev main_call11_v9 : Ref sig .tc := ⟨.hbm, 242, rfl⟩
abbrev main_call11_v10 : Ref sig .tc := ⟨.hbm, 243, rfl⟩
abbrev main_call11_v11 : Ref sig .tc := ⟨.hbm, 244, rfl⟩
abbrev main_call11_c_3 : Ref sig .tc := ⟨.hbm, 245, rfl⟩
abbrev main_call11_v12 : Ref sig .tc := ⟨.hbm, 246, rfl⟩
abbrev main_call11_v13 : Ref sig .tc := ⟨.hbm, 247, rfl⟩
abbrev main_call11_v14 : Ref sig .tc := ⟨.hbm, 248, rfl⟩
abbrev main_call11_cst : Ref sig .tc := ⟨.hbm, 249, rfl⟩
abbrev main_call11_v15 : Ref sig .tc := ⟨.hbm, 250, rfl⟩
abbrev main_v126 : Ref sig .tc := ⟨.hbm, 251, rfl⟩
abbrev main_v127 : Ref sig .tc := ⟨.hbm, 252, rfl⟩
abbrev main_v128 : Ref sig .tc := ⟨.hbm, 253, rfl⟩
abbrev main_cst_16 : Ref sig .tc := ⟨.hbm, 254, rfl⟩
abbrev main_v129 : Ref sig .tc := ⟨.hbm, 255, rfl⟩
abbrev main_cst_17 : Ref sig .tc := ⟨.hbm, 256, rfl⟩
abbrev main_v130 : Ref sig .tc := ⟨.hbm, 257, rfl⟩
abbrev main_v131 : Ref sig .tc := ⟨.hbm, 258, rfl⟩
abbrev main_v132 : Ref sig .tc := ⟨.hbm, 259, rfl⟩
abbrev main_v133 : Ref sig .tc := ⟨.hbm, 260, rfl⟩
abbrev main_cst_18 : Ref sig .tc := ⟨.hbm, 261, rfl⟩
abbrev main_v134 : Ref sig .tc := ⟨.hbm, 262, rfl⟩
abbrev main_cst_19 : Ref sig .tc := ⟨.hbm, 263, rfl⟩
abbrev main_v135 : Ref sig .tc := ⟨.hbm, 264, rfl⟩
abbrev main_v136 : Ref sig .tc := ⟨.hbm, 265, rfl⟩
abbrev main_v137 : Ref sig .tc := ⟨.hbm, 266, rfl⟩
abbrev main_v138 : Ref sig .tc := ⟨.hbm, 267, rfl⟩
abbrev main_v139 : Ref sig .tc := ⟨.hbm, 268, rfl⟩
abbrev main_v140 : Ref sig .tc := ⟨.hbm, 269, rfl⟩
abbrev main_v141 : Ref sig .tc := ⟨.hbm, 270, rfl⟩
abbrev main_v142 : Ref sig .tc := ⟨.hbm, 271, rfl⟩
abbrev main_v143 : Ref sig .tc := ⟨.hbm, 272, rfl⟩
abbrev main_v144 : Ref sig .tc := ⟨.hbm, 273, rfl⟩
abbrev main_v145 : Ref sig .tc := ⟨.hbm, 274, rfl⟩
abbrev main_v146 : Ref sig .tc := ⟨.hbm, 275, rfl⟩
abbrev main_v147 : Ref sig .tc := ⟨.hbm, 276, rfl⟩
abbrev main_v148 : Ref sig .tc := ⟨.hbm, 277, rfl⟩
abbrev main_v149 : Ref sig .tc := ⟨.hbm, 278, rfl⟩
abbrev main_v150 : Ref sig .tc := ⟨.hbm, 279, rfl⟩
abbrev main_v151 : Ref sig .tc := ⟨.hbm, 280, rfl⟩
abbrev main_v152 : Ref sig .tc := ⟨.hbm, 281, rfl⟩
abbrev main_v153 : Ref sig .tc := ⟨.hbm, 282, rfl⟩
abbrev main_v154 : Ref sig .tc := ⟨.hbm, 283, rfl⟩
abbrev main_v155 : Ref sig .tc := ⟨.hbm, 284, rfl⟩
abbrev main_v156 : Ref sig .tc := ⟨.hbm, 285, rfl⟩
abbrev main_v157 : Ref sig .tc := ⟨.hbm, 286, rfl⟩
abbrev main_v158 : Ref sig .tc := ⟨.hbm, 287, rfl⟩
abbrev main_call12_v0 : Ref sig .tc := ⟨.hbm, 288, rfl⟩
abbrev main_call12_cst : Ref sig .tc := ⟨.hbm, 289, rfl⟩
abbrev main_call12_v1 : Ref sig .tc := ⟨.hbm, 290, rfl⟩
abbrev main_call12_v2 : Ref sig .tc := ⟨.hbm, 291, rfl⟩
abbrev main_v159 : Ref sig .tc := ⟨.hbm, 292, rfl⟩
abbrev main_cst_20 : Ref sig .tc := ⟨.hbm, 293, rfl⟩
abbrev main_v160 : Ref sig .tc := ⟨.hbm, 294, rfl⟩
abbrev main_v161 : Ref sig .tc := ⟨.hbm, 295, rfl⟩
abbrev main_v162 : Ref sig .tc := ⟨.hbm, 296, rfl⟩
abbrev main_v163 : Ref sig .tc := ⟨.hbm, 297, rfl⟩
abbrev main_v164 : Ref sig .tc := ⟨.hbm, 298, rfl⟩
abbrev main_v165 : Ref sig .tc := ⟨.hbm, 299, rfl⟩
abbrev main_call13_v0 : Ref sig .tc := ⟨.hbm, 300, rfl⟩
abbrev main_call13_cst : Ref sig .tc := ⟨.hbm, 301, rfl⟩
abbrev main_call13_v1 : Ref sig .tc := ⟨.hbm, 302, rfl⟩
abbrev main_call13_v2 : Ref sig .tc := ⟨.hbm, 303, rfl⟩
abbrev main_v166 : Ref sig .tc := ⟨.hbm, 304, rfl⟩
abbrev main_cst_21 : Ref sig .tc := ⟨.hbm, 305, rfl⟩
abbrev main_v167 : Ref sig .tc := ⟨.hbm, 306, rfl⟩
abbrev main_v168 : Ref sig .tc := ⟨.hbm, 307, rfl⟩
abbrev main_v169 : Ref sig .tc := ⟨.hbm, 308, rfl⟩
abbrev main_v170 : Ref sig .tc := ⟨.hbm, 309, rfl⟩
abbrev main_v171 : Ref sig .tc := ⟨.hbm, 310, rfl⟩
abbrev main_v172 : Ref sig .tc := ⟨.hbm, 311, rfl⟩
abbrev main_call14_v0 : Ref sig .tc := ⟨.hbm, 312, rfl⟩
abbrev main_call14_cst : Ref sig .tc := ⟨.hbm, 313, rfl⟩
abbrev main_call14_c : Ref sig .tc := ⟨.hbm, 314, rfl⟩
abbrev main_call14_v1_0 : Ref sig .tc := ⟨.hbm, 315, rfl⟩
abbrev main_v173 : Ref sig .tc := ⟨.hbm, 316, rfl⟩
abbrev main_call15_c : Ref sig .tc := ⟨.hbm, 317, rfl⟩
abbrev main_call15_v0 : Ref sig .tc := ⟨.hbm, 318, rfl⟩
abbrev main_call15_v1 : Ref sig .tc := ⟨.hbm, 319, rfl⟩
abbrev main_call15_c_0 : Ref sig .tc := ⟨.hbm, 320, rfl⟩
abbrev main_call15_v2 : Ref sig .tc := ⟨.hbm, 321, rfl⟩
abbrev main_call15_v3 : Ref sig .tc := ⟨.hbm, 322, rfl⟩
abbrev main_call15_v4 : Ref sig .tc := ⟨.hbm, 323, rfl⟩
abbrev main_call15_v5 : Ref sig .tc := ⟨.hbm, 324, rfl⟩
abbrev main_call15_c_1 : Ref sig .tc := ⟨.hbm, 325, rfl⟩
abbrev main_call15_c_2 : Ref sig .tc := ⟨.hbm, 326, rfl⟩
abbrev main_call15_v6 : Ref sig .tc := ⟨.hbm, 327, rfl⟩
abbrev main_call15_v7 : Ref sig .tc := ⟨.hbm, 328, rfl⟩
abbrev main_call15_v8 : Ref sig .tc := ⟨.hbm, 329, rfl⟩
abbrev main_call15_v9 : Ref sig .tc := ⟨.hbm, 330, rfl⟩
abbrev main_call15_v10 : Ref sig .tc := ⟨.hbm, 331, rfl⟩
abbrev main_call15_v11 : Ref sig .tc := ⟨.hbm, 332, rfl⟩
abbrev main_call15_c_3 : Ref sig .tc := ⟨.hbm, 333, rfl⟩
abbrev main_call15_v12 : Ref sig .tc := ⟨.hbm, 334, rfl⟩
abbrev main_call15_v13 : Ref sig .tc := ⟨.hbm, 335, rfl⟩
abbrev main_call15_v14 : Ref sig .tc := ⟨.hbm, 336, rfl⟩
abbrev main_call15_cst : Ref sig .tc := ⟨.hbm, 337, rfl⟩
abbrev main_call15_v15 : Ref sig .tc := ⟨.hbm, 338, rfl⟩
abbrev main_v174 : Ref sig .tc := ⟨.hbm, 339, rfl⟩
abbrev main_v175 : Ref sig .tc := ⟨.hbm, 340, rfl⟩
abbrev main_v176 : Ref sig .tc := ⟨.hbm, 341, rfl⟩
abbrev main_cst_22 : Ref sig .tc := ⟨.hbm, 342, rfl⟩
abbrev main_v177 : Ref sig .tc := ⟨.hbm, 343, rfl⟩
abbrev main_cst_23 : Ref sig .tc := ⟨.hbm, 344, rfl⟩
abbrev main_v178 : Ref sig .tc := ⟨.hbm, 345, rfl⟩
abbrev main_v179 : Ref sig .tc := ⟨.hbm, 346, rfl⟩
abbrev main_v180 : Ref sig .tc := ⟨.hbm, 347, rfl⟩
abbrev main_v181 : Ref sig .tc := ⟨.hbm, 348, rfl⟩
abbrev main_cst_24 : Ref sig .tc := ⟨.hbm, 349, rfl⟩
abbrev main_v182 : Ref sig .tc := ⟨.hbm, 350, rfl⟩
abbrev main_cst_25 : Ref sig .tc := ⟨.hbm, 351, rfl⟩
abbrev main_v183 : Ref sig .tc := ⟨.hbm, 352, rfl⟩
abbrev main_v184 : Ref sig .tc := ⟨.hbm, 353, rfl⟩
abbrev main_v185 : Ref sig .tc := ⟨.hbm, 354, rfl⟩
abbrev main_v186 : Ref sig .tc := ⟨.hbm, 355, rfl⟩
abbrev main_v187 : Ref sig .tc := ⟨.hbm, 356, rfl⟩
abbrev main_v188 : Ref sig .tc := ⟨.hbm, 357, rfl⟩
abbrev main_v189 : Ref sig .tc := ⟨.hbm, 358, rfl⟩
abbrev main_v190 : Ref sig .tc := ⟨.hbm, 359, rfl⟩
abbrev main_v191 : Ref sig .tc := ⟨.hbm, 360, rfl⟩
abbrev main_v192 : Ref sig .tc := ⟨.hbm, 361, rfl⟩
abbrev main_v193 : Ref sig .tc := ⟨.hbm, 362, rfl⟩
abbrev main_v194 : Ref sig .tc := ⟨.hbm, 363, rfl⟩
abbrev main_v195 : Ref sig .tc := ⟨.hbm, 364, rfl⟩
abbrev main_v196 : Ref sig .tc := ⟨.hbm, 365, rfl⟩
abbrev main_v197 : Ref sig .tc := ⟨.hbm, 366, rfl⟩
abbrev main_v198 : Ref sig .tc := ⟨.hbm, 367, rfl⟩
abbrev main_v199 : Ref sig .tc := ⟨.hbm, 368, rfl⟩
abbrev main_v200 : Ref sig .tc := ⟨.hbm, 369, rfl⟩
abbrev main_v201 : Ref sig .tc := ⟨.hbm, 370, rfl⟩
abbrev main_v202 : Ref sig .tc := ⟨.hbm, 371, rfl⟩
abbrev main_v203 : Ref sig .tc := ⟨.hbm, 372, rfl⟩
abbrev main_v204 : Ref sig .tc := ⟨.hbm, 373, rfl⟩
abbrev main_v205 : Ref sig .tc := ⟨.hbm, 374, rfl⟩
abbrev main_v206 : Ref sig .tc := ⟨.hbm, 375, rfl⟩
abbrev main_call16_v0 : Ref sig .tc := ⟨.hbm, 376, rfl⟩
abbrev main_call16_cst : Ref sig .tc := ⟨.hbm, 377, rfl⟩
abbrev main_call16_v1 : Ref sig .tc := ⟨.hbm, 378, rfl⟩
abbrev main_call16_v2 : Ref sig .tc := ⟨.hbm, 379, rfl⟩
abbrev main_v207 : Ref sig .tc := ⟨.hbm, 380, rfl⟩
abbrev main_cst_26 : Ref sig .tc := ⟨.hbm, 381, rfl⟩
abbrev main_v208 : Ref sig .tc := ⟨.hbm, 382, rfl⟩
abbrev main_v209 : Ref sig .tc := ⟨.hbm, 383, rfl⟩
abbrev main_v210 : Ref sig .tc := ⟨.hbm, 384, rfl⟩
abbrev main_v211 : Ref sig .tc := ⟨.hbm, 385, rfl⟩
abbrev main_v212 : Ref sig .tc := ⟨.hbm, 386, rfl⟩
abbrev main_v213 : Ref sig .tc := ⟨.hbm, 387, rfl⟩
abbrev main_call17_v0 : Ref sig .tc := ⟨.hbm, 388, rfl⟩
abbrev main_call17_cst : Ref sig .tc := ⟨.hbm, 389, rfl⟩
abbrev main_call17_v1 : Ref sig .tc := ⟨.hbm, 390, rfl⟩
abbrev main_call17_v2 : Ref sig .tc := ⟨.hbm, 391, rfl⟩
abbrev main_v214 : Ref sig .tc := ⟨.hbm, 392, rfl⟩
abbrev main_cst_27 : Ref sig .tc := ⟨.hbm, 393, rfl⟩
abbrev main_v215 : Ref sig .tc := ⟨.hbm, 394, rfl⟩
abbrev main_v216 : Ref sig .tc := ⟨.hbm, 395, rfl⟩
abbrev main_v217 : Ref sig .tc := ⟨.hbm, 396, rfl⟩
abbrev main_v218 : Ref sig .tc := ⟨.hbm, 397, rfl⟩
abbrev main_v219 : Ref sig .tc := ⟨.hbm, 398, rfl⟩
abbrev main_v220 : Ref sig .tc := ⟨.hbm, 399, rfl⟩
abbrev main_call18_v0 : Ref sig .tc := ⟨.hbm, 400, rfl⟩
abbrev main_call18_cst : Ref sig .tc := ⟨.hbm, 401, rfl⟩
abbrev main_call18_c : Ref sig .tc := ⟨.hbm, 402, rfl⟩
abbrev main_call18_v1_0 : Ref sig .tc := ⟨.hbm, 403, rfl⟩
abbrev main_v221 : Ref sig .tc := ⟨.hbm, 404, rfl⟩
abbrev main_call19_c : Ref sig .tc := ⟨.hbm, 405, rfl⟩
abbrev main_call19_v0 : Ref sig .tc := ⟨.hbm, 406, rfl⟩
abbrev main_call19_v1 : Ref sig .tc := ⟨.hbm, 407, rfl⟩
abbrev main_call19_c_0 : Ref sig .tc := ⟨.hbm, 408, rfl⟩
abbrev main_call19_v2 : Ref sig .tc := ⟨.hbm, 409, rfl⟩
abbrev main_call19_v3 : Ref sig .tc := ⟨.hbm, 410, rfl⟩
abbrev main_call19_v4 : Ref sig .tc := ⟨.hbm, 411, rfl⟩
abbrev main_call19_v5 : Ref sig .tc := ⟨.hbm, 412, rfl⟩
abbrev main_call19_c_1 : Ref sig .tc := ⟨.hbm, 413, rfl⟩
abbrev main_call19_c_2 : Ref sig .tc := ⟨.hbm, 414, rfl⟩
abbrev main_call19_v6 : Ref sig .tc := ⟨.hbm, 415, rfl⟩
abbrev main_call19_v7 : Ref sig .tc := ⟨.hbm, 416, rfl⟩
abbrev main_call19_v8 : Ref sig .tc := ⟨.hbm, 417, rfl⟩
abbrev main_call19_v9 : Ref sig .tc := ⟨.hbm, 418, rfl⟩
abbrev main_call19_v10 : Ref sig .tc := ⟨.hbm, 419, rfl⟩
abbrev main_call19_v11 : Ref sig .tc := ⟨.hbm, 420, rfl⟩
abbrev main_call19_c_3 : Ref sig .tc := ⟨.hbm, 421, rfl⟩
abbrev main_call19_v12 : Ref sig .tc := ⟨.hbm, 422, rfl⟩
abbrev main_call19_v13 : Ref sig .tc := ⟨.hbm, 423, rfl⟩
abbrev main_call19_v14 : Ref sig .tc := ⟨.hbm, 424, rfl⟩
abbrev main_call19_cst : Ref sig .tc := ⟨.hbm, 425, rfl⟩
abbrev main_call19_v15 : Ref sig .tc := ⟨.hbm, 426, rfl⟩
abbrev main_v222 : Ref sig .tc := ⟨.hbm, 427, rfl⟩
abbrev main_v223 : Ref sig .tc := ⟨.hbm, 428, rfl⟩
abbrev main_v224 : Ref sig .tc := ⟨.hbm, 429, rfl⟩
abbrev main_cst_28 : Ref sig .tc := ⟨.hbm, 430, rfl⟩
abbrev main_v225 : Ref sig .tc := ⟨.hbm, 431, rfl⟩
abbrev main_cst_29 : Ref sig .tc := ⟨.hbm, 432, rfl⟩
abbrev main_v226 : Ref sig .tc := ⟨.hbm, 433, rfl⟩
abbrev main_v227 : Ref sig .tc := ⟨.hbm, 434, rfl⟩
abbrev main_v228 : Ref sig .tc := ⟨.hbm, 435, rfl⟩
abbrev main_v229 : Ref sig .tc := ⟨.hbm, 436, rfl⟩
abbrev main_cst_30 : Ref sig .tc := ⟨.hbm, 437, rfl⟩
abbrev main_v230 : Ref sig .tc := ⟨.hbm, 438, rfl⟩
abbrev main_cst_31 : Ref sig .tc := ⟨.hbm, 439, rfl⟩
abbrev main_v231 : Ref sig .tc := ⟨.hbm, 440, rfl⟩
abbrev main_v232 : Ref sig .tc := ⟨.hbm, 441, rfl⟩
abbrev main_v233 : Ref sig .tc := ⟨.hbm, 442, rfl⟩
abbrev main_v234 : Ref sig .tc := ⟨.hbm, 443, rfl⟩
abbrev main_v235 : Ref sig .tc := ⟨.hbm, 444, rfl⟩
abbrev main_v236 : Ref sig .tc := ⟨.hbm, 445, rfl⟩
abbrev main_v237 : Ref sig .tc := ⟨.hbm, 446, rfl⟩
abbrev main_v238 : Ref sig .tc := ⟨.hbm, 447, rfl⟩
abbrev main_v239 : Ref sig .tc := ⟨.hbm, 448, rfl⟩
abbrev main_v240 : Ref sig .tc := ⟨.hbm, 449, rfl⟩
abbrev main_v241 : Ref sig .tc := ⟨.hbm, 450, rfl⟩
abbrev main_v242 : Ref sig .tc := ⟨.hbm, 451, rfl⟩
abbrev main_v243 : Ref sig .tc := ⟨.hbm, 452, rfl⟩
abbrev main_v244 : Ref sig .tc := ⟨.hbm, 453, rfl⟩
abbrev main_v245 : Ref sig .tc := ⟨.hbm, 454, rfl⟩
abbrev main_v246 : Ref sig .tc := ⟨.hbm, 455, rfl⟩
abbrev main_v247 : Ref sig .tc := ⟨.hbm, 456, rfl⟩
abbrev main_v248 : Ref sig .tc := ⟨.hbm, 457, rfl⟩
abbrev main_v249 : Ref sig .tc := ⟨.hbm, 458, rfl⟩
abbrev main_v250 : Ref sig .tc := ⟨.hbm, 459, rfl⟩
abbrev main_v251 : Ref sig .tc := ⟨.hbm, 460, rfl⟩
abbrev main_v252 : Ref sig .tc := ⟨.hbm, 461, rfl⟩
abbrev main_v253 : Ref sig .tc := ⟨.hbm, 462, rfl⟩
abbrev main_v254 : Ref sig .tc := ⟨.hbm, 463, rfl⟩
abbrev main_call20_v0 : Ref sig .tc := ⟨.hbm, 464, rfl⟩
abbrev main_call20_cst : Ref sig .tc := ⟨.hbm, 465, rfl⟩
abbrev main_call20_v1 : Ref sig .tc := ⟨.hbm, 466, rfl⟩
abbrev main_call20_v2 : Ref sig .tc := ⟨.hbm, 467, rfl⟩
abbrev main_v255 : Ref sig .tc := ⟨.hbm, 468, rfl⟩
abbrev main_cst_32 : Ref sig .tc := ⟨.hbm, 469, rfl⟩
abbrev main_v256 : Ref sig .tc := ⟨.hbm, 470, rfl⟩
abbrev main_v257 : Ref sig .tc := ⟨.hbm, 471, rfl⟩
abbrev main_v258 : Ref sig .tc := ⟨.hbm, 472, rfl⟩
abbrev main_v259 : Ref sig .tc := ⟨.hbm, 473, rfl⟩
abbrev main_v260 : Ref sig .tc := ⟨.hbm, 474, rfl⟩
abbrev main_v261 : Ref sig .tc := ⟨.hbm, 475, rfl⟩
abbrev main_call21_v0 : Ref sig .tc := ⟨.hbm, 476, rfl⟩
abbrev main_call21_cst : Ref sig .tc := ⟨.hbm, 477, rfl⟩
abbrev main_call21_v1 : Ref sig .tc := ⟨.hbm, 478, rfl⟩
abbrev main_call21_v2 : Ref sig .tc := ⟨.hbm, 479, rfl⟩
abbrev main_v262 : Ref sig .tc := ⟨.hbm, 480, rfl⟩
abbrev main_cst_33 : Ref sig .tc := ⟨.hbm, 481, rfl⟩
abbrev main_v263 : Ref sig .tc := ⟨.hbm, 482, rfl⟩
abbrev main_v264 : Ref sig .tc := ⟨.hbm, 483, rfl⟩
abbrev main_v265 : Ref sig .tc := ⟨.hbm, 484, rfl⟩
abbrev main_v266 : Ref sig .tc := ⟨.hbm, 485, rfl⟩
abbrev main_v267 : Ref sig .tc := ⟨.hbm, 486, rfl⟩
abbrev main_v268 : Ref sig .tc := ⟨.hbm, 487, rfl⟩
abbrev main_call22_v0 : Ref sig .tc := ⟨.hbm, 488, rfl⟩
abbrev main_call22_cst : Ref sig .tc := ⟨.hbm, 489, rfl⟩
abbrev main_call22_c : Ref sig .tc := ⟨.hbm, 490, rfl⟩
abbrev main_call22_v1_0 : Ref sig .tc := ⟨.hbm, 491, rfl⟩
abbrev main_v269 : Ref sig .tc := ⟨.hbm, 492, rfl⟩
abbrev main_call23_c : Ref sig .tc := ⟨.hbm, 493, rfl⟩
abbrev main_call23_v0 : Ref sig .tc := ⟨.hbm, 494, rfl⟩
abbrev main_call23_v1 : Ref sig .tc := ⟨.hbm, 495, rfl⟩
abbrev main_call23_c_0 : Ref sig .tc := ⟨.hbm, 496, rfl⟩
abbrev main_call23_v2 : Ref sig .tc := ⟨.hbm, 497, rfl⟩
abbrev main_call23_v3 : Ref sig .tc := ⟨.hbm, 498, rfl⟩
abbrev main_call23_v4 : Ref sig .tc := ⟨.hbm, 499, rfl⟩
abbrev main_call23_v5 : Ref sig .tc := ⟨.hbm, 500, rfl⟩
abbrev main_call23_c_1 : Ref sig .tc := ⟨.hbm, 501, rfl⟩
abbrev main_call23_c_2 : Ref sig .tc := ⟨.hbm, 502, rfl⟩
abbrev main_call23_v6 : Ref sig .tc := ⟨.hbm, 503, rfl⟩
abbrev main_call23_v7 : Ref sig .tc := ⟨.hbm, 504, rfl⟩
abbrev main_call23_v8 : Ref sig .tc := ⟨.hbm, 505, rfl⟩
abbrev main_call23_v9 : Ref sig .tc := ⟨.hbm, 506, rfl⟩
abbrev main_call23_v10 : Ref sig .tc := ⟨.hbm, 507, rfl⟩
abbrev main_call23_v11 : Ref sig .tc := ⟨.hbm, 508, rfl⟩
abbrev main_call23_c_3 : Ref sig .tc := ⟨.hbm, 509, rfl⟩
abbrev main_call23_v12 : Ref sig .tc := ⟨.hbm, 510, rfl⟩
abbrev main_call23_v13 : Ref sig .tc := ⟨.hbm, 511, rfl⟩
abbrev main_call23_v14 : Ref sig .tc := ⟨.hbm, 512, rfl⟩
abbrev main_call23_cst : Ref sig .tc := ⟨.hbm, 513, rfl⟩
abbrev main_call23_v15 : Ref sig .tc := ⟨.hbm, 514, rfl⟩
abbrev main_v270 : Ref sig .tc := ⟨.hbm, 515, rfl⟩
abbrev main_v271 : Ref sig .tc := ⟨.hbm, 516, rfl⟩
abbrev main_v272 : Ref sig .tc := ⟨.hbm, 517, rfl⟩
abbrev main_cst_34 : Ref sig .tc := ⟨.hbm, 518, rfl⟩
abbrev main_v273 : Ref sig .tc := ⟨.hbm, 519, rfl⟩
abbrev main_cst_35 : Ref sig .tc := ⟨.hbm, 520, rfl⟩
abbrev main_v274 : Ref sig .tc := ⟨.hbm, 521, rfl⟩
abbrev main_v275 : Ref sig .tc := ⟨.hbm, 522, rfl⟩
abbrev main_v276 : Ref sig .tc := ⟨.hbm, 523, rfl⟩
abbrev main_v277 : Ref sig .tc := ⟨.hbm, 524, rfl⟩
abbrev main_cst_36 : Ref sig .tc := ⟨.hbm, 525, rfl⟩
abbrev main_v278 : Ref sig .tc := ⟨.hbm, 526, rfl⟩
abbrev main_cst_37 : Ref sig .tc := ⟨.hbm, 527, rfl⟩
abbrev main_v279 : Ref sig .tc := ⟨.hbm, 528, rfl⟩
abbrev main_v280 : Ref sig .tc := ⟨.hbm, 529, rfl⟩
abbrev main_v281 : Ref sig .tc := ⟨.hbm, 530, rfl⟩
abbrev main_v282 : Ref sig .tc := ⟨.hbm, 531, rfl⟩
abbrev main_v283 : Ref sig .tc := ⟨.hbm, 532, rfl⟩
abbrev main_v284 : Ref sig .tc := ⟨.hbm, 533, rfl⟩
abbrev main_v285 : Ref sig .tc := ⟨.hbm, 534, rfl⟩
abbrev main_v286 : Ref sig .tc := ⟨.hbm, 535, rfl⟩
abbrev main_v287 : Ref sig .tc := ⟨.hbm, 536, rfl⟩
abbrev main_v288 : Ref sig .tc := ⟨.hbm, 537, rfl⟩
abbrev main_v289 : Ref sig .tc := ⟨.hbm, 538, rfl⟩
abbrev main_v290 : Ref sig .tc := ⟨.hbm, 539, rfl⟩
abbrev main_v291 : Ref sig .tc := ⟨.hbm, 540, rfl⟩
abbrev main_v292 : Ref sig .tc := ⟨.hbm, 541, rfl⟩
abbrev main_v293 : Ref sig .tc := ⟨.hbm, 542, rfl⟩
abbrev main_v294 : Ref sig .tc := ⟨.hbm, 543, rfl⟩
abbrev main_v295 : Ref sig .tc := ⟨.hbm, 544, rfl⟩
abbrev main_v296 : Ref sig .tc := ⟨.hbm, 545, rfl⟩
abbrev main_v297 : Ref sig .tc := ⟨.hbm, 546, rfl⟩
abbrev main_v298 : Ref sig .tc := ⟨.hbm, 547, rfl⟩

abbrev nD : Nat := 1
abbrev τ : Topo := Topo.v7x

variable {F : FTy → Type} [FloatOps F]
-- ==== Proof.Rows.lean ====
/-
  The quantizer on one row of 8192 extended reals: six codebooks in turn, each taking its reconstruction from what is left.
-/
module

public import Idealize.ShloMosaic.PureOps.Ideal.Laws
public import Idealize.ShloMosaic.Lib.SortNet.Extract

@[expose] public section

noncomputable section

namespace Cert.Rows

open Idealize.ShloMosaic

/-! ## The first greatest entry -/

/-- The first index of a greatest entry. -/
def best (f : Fin 1024 → EReal) : Fin 1024 :=
  (Finset.univ.filter fun c => ∀ c', f c' ≤ f c).min' (by
    obtain ⟨c, -, hc⟩ := Finset.exists_max_image Finset.univ f ⟨0, Finset.mem_univ _⟩
    exact ⟨c, by simpa using fun c' => hc c' (Finset.mem_univ _)⟩)

/-- Its entry is greatest. -/
theorem le_best (f : Fin 1024 → EReal) (c : Fin 1024) : f c ≤ f (best f) := by
  have h := Finset.min'_mem (Finset.univ.filter fun c => ∀ c', f c' ≤ f c) (by
    obtain ⟨c, -, hc⟩ := Finset.exists_max_image Finset.univ f ⟨0, Finset.mem_univ _⟩
    exact ⟨c, by simpa using fun c' => hc c' (Finset.mem_univ _)⟩)
  exact (Finset.mem_filter.mp h).2 c

/-- It is the first such. -/
theorem best_le {f : Fin 1024 → EReal} {c : Fin 1024} (h : ∀ c', f c' ≤ f c) : best f ≤ c :=
  Finset.min'_le _ _ (Finset.mem_filter.mpr ⟨Finset.mem_univ _, h⟩)

/-- An index of a greatest entry that comes before every other is the first. -/
theorem eq_best {f : Fin 1024 → EReal} {c : Fin 1024} (h : ∀ c', f c' ≤ f c) (h' : ∀ c', f c' = f c → c ≤ c') : c = best f :=
  le_antisymm (h' _ (le_antisymm (h _) (le_best f c))) (best_le h)

/-! ## One codebook -/

/-- The small constant added to a length. -/
def eps : EReal := Ideal.ofBits .f32 0x322BCC77#32

/-- Eight numbers divided by their length plus the small constant. -/
def unit (z : Fin 8 → EReal) (k : Fin 8) : EReal := Ideal.div (z k) (Ideal.sqrt (∑ x, z x * z x) + eps)

/-- Both projections with their offsets, and the codebooks. -/
structure Par where
  w1 : Fin 6 → Fin 8192 → Fin 8 → EReal
  v1 : Fin 6 → Fin 8 → EReal
  bk : Fin 6 → Fin 1024 → Fin 8 → EReal
  w2 : Fin 6 → Fin 8 → Fin 8192 → EReal
  v2 : Fin 6 → Fin 8192 → EReal

variable (P : Par)

/-- The row's unit projection. -/
def zn (i : Fin 6) (r : Fin 8192 → EReal) : Fin 8 → EReal := unit fun k => (∑ d, r d * P.w1 i d k) + P.v1 i k
/-- Its products with the unit entries. -/
def sim (i : Fin 6) (r : Fin 8192 → EReal) (c : Fin 1024) : EReal := ∑ k, zn P i r k * unit (P.bk i c) k
/-- The entry picked. -/
def qn (i : Fin 6) (r : Fin 8192 → EReal) : Fin 8 → EReal := unit (P.bk i (best (sim P i r)))
/-- Its reconstruction. -/
def zq (i : Fin 6) (r : Fin 8192 → EReal) (d : Fin 8192) : EReal := (∑ k, qn P i r k * P.w2 i k d) + P.v2 i d
/-- What is left. -/
def next (i : Fin 6) (r : Fin 8192 → EReal) (d : Fin 8192) : EReal := r d - zq P i r d
/-- The square difference in column `k`. -/
def sq (i : Fin 6) (r : Fin 8192 → EReal) (k : Fin 8) : EReal := (zn P i r k - qn P i r k) * (zn P i r k - qn P i r k)
/-- What is left after `n` codebooks. -/
def left (r : Fin 8192 → EReal) : ℕ → Fin 8192 → EReal
  | 0 => r
  | n + 1 => next P (Fin.ofNat 6 n) (left r n)

/-! ## Everything is finite -/

/-- A real number. -/
def IsReal (x : EReal) : Prop := ∃ r : ℝ, x = r

theorem IsReal.add {x y : EReal} : IsReal x → IsReal y → IsReal (x + y) := by rintro ⟨a, rfl⟩ ⟨b, rfl⟩; exact ⟨a + b, by push_cast; rfl⟩
theorem IsReal.sub {x y : EReal} : IsReal x → IsReal y → IsReal (x - y) := by rintro ⟨a, rfl⟩ ⟨b, rfl⟩; exact ⟨a - b, by push_cast; rfl⟩
theorem IsReal.mul {x y : EReal} : IsReal x → IsReal y → IsReal (x * y) := by rintro ⟨a, rfl⟩ ⟨b, rfl⟩; exact ⟨a * b, by push_cast; rfl⟩
theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

/-- A real number is what is neither infinity. -/
theorem isReal_iff (x : EReal) : IsReal x ↔ x ≠ ⊥ ∧ x ≠ ⊤ := by
  constructor
  · rintro ⟨r, rfl⟩; exact ⟨EReal.coe_ne_bot r, EReal.coe_ne_top r⟩
  · rintro ⟨h, h'⟩; exact ⟨x.toReal, (EReal.coe_toReal h' h).symm⟩

/-- The small constant is a positive real. -/
theorem eps_eq : ∃ e : ℝ, 0 < e ∧ eps = e := by
  refine ⟨(1 * (2 ^ 23 + 2870391 : ℕ) * (2 : ℝ) ^ ((100 : ℤ) - 127 - 23)), by positivity, ?_⟩
  simp [eps, Ideal.ofBits, Ideal.ieee]

/-- A square is not negative. -/
theorem sq_nonneg (x : EReal) : 0 ≤ x * x := by
  induction x using EReal.rec with
  | bot => simp
  | top => simp
  | coe r => rw [← EReal.coe_mul]; exact EReal.coe_nonneg.mpr (mul_self_nonneg r)

/-- Divided by their length plus the small constant, eight numbers are real, infinite ones too. -/
theorem unit_fin (z : Fin 8 → EReal) (k : Fin 8) : IsReal (unit z k) := by
  obtain ⟨e, he, heq⟩ := eps_eq
  have h0 : (0 : EReal) ≤ ∑ x, z x * z x := Finset.sum_nonneg fun x _ => sq_nonneg _
  have hk : z k * z k ≤ ∑ x, z x * z x := Finset.single_le_sum (f := fun x => z x * z x) (fun x _ => sq_nonneg _) (Finset.mem_univ k)
  unfold unit
  rw [heq]
  generalize ∑ x, z x * z x = S at h0 hk
  induction S using EReal.rec with
  | bot => exact absurd h0 (by simp)
  | top =>
    rw [Ideal.sqrt_top, EReal.top_add_coe]
    exact ⟨0, by simp [Ideal.div]⟩
  | coe s =>
    have hs : 0 ≤ s := EReal.coe_nonneg.mp h0
    have hz : IsReal (z k) := by
      rw [isReal_iff]
      constructor <;> intro h <;> rw [h] at hk <;> simp at hk
    obtain ⟨a, ha⟩ := hz
    rw [Ideal.sqrt_coe, if_neg (not_lt.mpr hs), ← EReal.coe_add, ha,
      Ideal.div_coe (by have := Real.sqrt_nonneg s; positivity)]
    exact ⟨_, (EReal.coe_mul _ _).symm⟩

theorem zn_fin (i : Fin 6) (r : Fin 8192 → EReal) (k : Fin 8) : IsReal (zn P i r k) := unit_fin _ _
theorem qn_fin (i : Fin 6) (r : Fin 8192 → EReal) (k : Fin 8) : IsReal (qn P i r k) := unit_fin _ _
theorem sq_fin (i : Fin 6) (r : Fin 8192 → EReal) (k : Fin 8) : IsReal (sq P i r k) :=
  ((zn_fin P i r k).sub (qn_fin P i r k)).mul ((zn_fin P i r k).sub (qn_fin P i r k))

/-- With real second projections, reconstructions are real, -/
theorem zq_fin (hw : ∀ i k d, IsReal (P.w2 i k d)) (hv : ∀ i d, IsReal (P.v2 i d)) (i : Fin 6) (r : Fin 8192 → EReal) (d : Fin 8192) :
    IsReal (zq P i r d) := (IsReal.sum _ fun k => (qn_fin P i r k).mul (hw i k d)).add (hv i d)

/-- Taking the difference out of a real number and putting it back gives the other number. -/
theorem add_sub_self' {x y : EReal} (hx : IsReal x) (hy : IsReal y) : x + (y - x) = y := by
  obtain ⟨a, rfl⟩ := hx; obtain ⟨b, rfl⟩ := hy
  rw [← EReal.coe_sub, ← EReal.coe_add]; congr 1; ring

/-- The kernel's last line is the sum of the six reconstructions: what the first five took from the row, and the sixth. -/
theorem last_eq (hw : ∀ i k d, IsReal (P.w2 i k d)) (hv : ∀ i d, IsReal (P.v2 i d)) (r : Fin 8192 → EReal) (d : Fin 8192) (hr : IsReal (r d)) :
    r d - left P r 5 d + zq P 5 (left P r 5) d
      = 0 + zq P 0 (left P r 0) d + zq P 1 (left P r 1) d + zq P 2 (left P r 2) d + zq P 3 (left P r 3) d + zq P 4 (left P r 4) d
        + zq P 5 (left P r 5) d := by
  have h : left P r 5 d = r d - zq P 0 (left P r 0) d - zq P 1 (left P r 1) d - zq P 2 (left P r 2) d - zq P 3 (left P r 3) d
      - zq P 4 (left P r 4) d := rfl
  rw [h]
  obtain ⟨x, hx⟩ := hr
  obtain ⟨a0, h0⟩ := zq_fin P hw hv 0 (left P r 0) d
  obtain ⟨a1, h1⟩ := zq_fin P hw hv 1 (left P r 1) d
  obtain ⟨a2, h2⟩ := zq_fin P hw hv 2 (left P r 2) d
  obtain ⟨a3, h3⟩ := zq_fin P hw hv 3 (left P r 3) d
  obtain ⟨a4, h4⟩ := zq_fin P hw hv 4 (left P r 4) d
  obtain ⟨a5, h5⟩ := zq_fin P hw hv 5 (left P r 5) d
  rw [hx, h0, h1, h2, h3, h4, h5]
  norm_cast
  ring

/-- The literals of the two means: 512 and its inverse. -/
theorem lit512 : Ideal.ofBits .f32 0x44000000#32 = ((512 : ℝ) : EReal) := by
  simp [Ideal.ofBits, Ideal.ieee]; norm_num; rw [← EReal.coe_mul]; norm_num
@[inherit_doc lit512] theorem litInv512 : Ideal.ofBits .f32 0x3B000000#32 = ((1 / 512 : ℝ) : EReal) := by
  simp [Ideal.ofBits, Ideal.ieee]; norm_num; rw [← EReal.coe_mul]; norm_num

/-- The mean of the sums is the sum of the means: six codebooks' square differences of 64 rows `R`, summed over the columns last
    and scaled once, or each codebook's summed and divided. -/
theorem means (f : Fin 6 → Fin 64 → Fin 8 → EReal) (hf : ∀ i t k, IsReal (f i t k)) :
    (∑ k, (0 + (∑ t, f 0 t k) + (∑ t, f 1 t k) + (∑ t, f 2 t k) + (∑ t, f 3 t k) + (∑ t, f 4 t k) + ∑ t, f 5 t k)) * Ideal.ofBits .f32 0x3B000000#32
      = 0 + Ideal.div (∑ t, ∑ k, f 0 t k) (Ideal.ofBits .f32 0x44000000#32) + Ideal.div (∑ t, ∑ k, f 1 t k) (Ideal.ofBits .f32 0x44000000#32)
        + Ideal.div (∑ t, ∑ k, f 2 t k) (Ideal.ofBits .f32 0x44000000#32) + Ideal.div (∑ t, ∑ k, f 3 t k) (Ideal.ofBits .f32 0x44000000#32)
        + Ideal.div (∑ t, ∑ k, f 4 t k) (Ideal.ofBits .f32 0x44000000#32) + Ideal.div (∑ t, ∑ k, f 5 t k) (Ideal.ofBits .f32 0x44000000#32) := by
  choose g hg using hf
  have hsum : ∀ {n : ℕ} (a : Fin n → ℝ), ∑ x, (a x : EReal) = ((∑ x, a x : ℝ) : EReal) := fun a => (map_sum (⟨⟨(↑), EReal.coe_zero⟩, EReal.coe_add⟩ : ℝ →+ EReal) a _).symm
  simp only [hg, hsum, lit512, litInv512, Ideal.div_coe (y := 512) (by norm_num)]
  simp only [← EReal.coe_zero, ← EReal.coe_add, hsum, ← EReal.coe_mul, EReal.coe_eq_coe_iff]
  simp only [Finset.sum_add_distrib, Finset.sum_const_zero]
  simp only [Finset.sum_comm (s := (Finset.univ : Finset (Fin 8)))]
  ring

/-! ## Words -/

/-- The least of words is one of them that is at most each. -/
theorem fold_minsi {ι : Type} [DecidableEq ι] (w : ι → BitVec 32) (b v : BitVec 32) (s : Finset ι) (hb : v.toInt ≤ b.toInt)
    (hle : ∀ x ∈ s, v.toInt ≤ (w x).toInt) :
    v.toInt ≤ (s.fold IntOp.minsi b w).toInt ∧ ((∃ x ∈ s, w x = v) → s.fold IntOp.minsi b w = v) := by
  induction s using Finset.induction_on with
  | empty => exact ⟨hb, fun ⟨x, hx, _⟩ => absurd hx (Finset.notMem_empty x)⟩
  | insert a s ha ih =>
    rw [Finset.fold_insert ha]
    obtain ⟨h1, h2⟩ := ih fun x hx => hle x (Finset.mem_insert_of_mem hx)
    have h3 := hle a (Finset.mem_insert_self a s)
    refine ⟨by rw [SortNet.toInt_minsi]; exact le_min h3 h1, ?_⟩
    rintro ⟨x, hx, rfl⟩
    apply BitVec.eq_of_toInt_eq
    rw [SortNet.toInt_minsi]
    rcases Finset.mem_insert.mp hx with rfl | hx
    · exact min_eq_left h1
    · rw [h2 ⟨x, hx, rfl⟩]; exact min_eq_right h3

end Cert.Rows

end
-- ==== Proof.KerHost.lean ====
/-
  What the kernel's seven input blocks hold, from the arguments: the activations in rows, the codebooks' unit entries, the rest as given.
-/
module

public import proofs.«01_k».proof.Proof.Gen.KernelIdeal.Frame
public import proofs.«01_k».proof.Proof.Rows
public import Idealize.ShloMosaic.Lib.Pointwise
public import Idealize.ShloMosaic.Lib.Claim
public import Idealize.ShloMosaic.Lib.Pipeline.Value

@[expose] public section

set_option maxRecDepth 16384

noncomputable section

namespace Cert.KerHost

open Cert.KernelIdeal Cert.KernelIdeal.Gen Idealize.ShloMosaic Idealize.ShloMosaic.TcCoe Idealize.ShloMosaic.StableHlo Idealize.SL.Sem

variable {F : FTy → Type} [FloatOps F]

/-! ## The operations before the region -/

/-- The activations laid out in rows. -/
def rows (z : FVec F S8x4096x128 .f32) : FVec F S512x8192 .f32 :=
  shapeCast S512x8192 (shapeCast S8x256x2048 (transpose S8x256x128x16 [0, 2, 3, 1]
    (shapeCast S8x16x256x128 z shapeCasts_S8x4096x128_S8x16x256x128) transposes_S8x16x256x128_S8x256x128x16_0_2_3_1)
    shapeCasts_S8x256x128x16_S8x256x2048) shapeCasts_S8x256x2048_S512x8192

/-- The codebooks' unit entries. -/
def units (w : FVec F S6x1024x8 .f32) : FVec F S6x1024x8 .f32 :=
  Host.divf w (broadcastInDim S6x1024x8 ![0, 1, 2] bcast_S6x1024x1_S6x1024x8_0_1_2
    (addf (Host.sqrt (broadcastInDim S6x1024x1 ![0, 1] bcast_S6x1024_S6x1024x1_0_1
        (Host.reduceAdd (mulf w w) (constant S_ .f32 0x00000000#32) reducesTo_S6x1024x8_S6x1024_d2 h_S_)))
      (broadcastInDim S6x1024x1 ![] bcast_S_S6x1024x1 (constant S_ .f32 0x322BCC77#32))))

variable (m : (ℓ : Loc nD τ sig) → Buf (Elt F) ℓ) (c : Dev nD)

/-- What the launch holds in a buffer. -/
abbrev mem (b : Ref sig .tc) : Buf (Elt F) ((c.tc : Thread nD τ).loc b) := m ((c.tc : Thread nD τ).loc b)

theorem V_z : V m c main_v3 = rows (mem m c main_arg0) := by
  rfl
theorem V_w1 : V m c main_v12 = truncf .bf16 (mem m c main_arg1 : FVec F S6x8192x8 .f32) bitsLt_bf16_f32 := by
  rfl
theorem V_v1 : V m c main_v14 = shapeCast S6x1x8 (mem m c main_arg2 : FVec F S6x8 .f32) shapeCasts_S6x8_S6x1x8 := by
  rfl
theorem V_cn : V m c main_v9 = truncf .bf16 (units (mem m c main_arg3)) bitsLt_bf16_f32 := by
  rfl
theorem V_ct : V m c main_v11
    = truncf .bf16 (transpose S6x8x1024 [0, 2, 1] (units (mem m c main_arg3)) transposes_S6x1024x8_S6x8x1024_0_2_1) bitsLt_bf16_f32 := by
  rfl
theorem V_w2 : V m c main_v13 = truncf .bf16 (mem m c main_arg4 : FVec F S6x8x8192 .f32) bitsLt_bf16_f32 := by
  rfl
theorem V_v2 : V m c main_v15 = shapeCast S6x1x8192 (mem m c main_arg5 : FVec F S6x8192 .f32) shapeCasts_S6x8192_S6x1x8192 := by
  rfl

/-! ## The blocks: each window is a whole array -/

section Blocks
variable (t : Fin cfg0.N)

theorem blk_z : (iblk m c 0 t : Vec F S512x8192 .f32) = V m c main_v3 :=
  Memref.read_access_unit_zero (Elt F) main_v3 (funext fun a => Nat.zero_mul _) (fun a => by simp) _
theorem blk_w1 : (iblk m c 1 t : Vec F S6x8192x8 .bf16) = V m c main_v12 :=
  Memref.read_access_unit_zero (Elt F) main_v12 (funext fun a => Nat.zero_mul _) (fun a => by simp) _
theorem blk_v1 : (iblk m c 2 t : Vec F S6x1x8 .f32) = V m c main_v14 :=
  Memref.read_access_unit_zero (Elt F) main_v14 (funext fun a => Nat.zero_mul _) (fun a => by simp) _
theorem blk_cn : (iblk m c 3 t : Vec F S6x1024x8 .bf16) = V m c main_v9 :=
  Memref.read_access_unit_zero (Elt F) main_v9 (funext fun a => Nat.zero_mul _) (fun a => by simp) _
theorem blk_ct : (iblk m c 4 t : Vec F S6x8x1024 .bf16) = V m c main_v11 :=
  Memref.read_access_unit_zero (Elt F) main_v11 (funext fun a => Nat.zero_mul _) (fun a => by simp) _
theorem blk_w2 : (iblk m c 5 t : Vec F S6x8x8192 .bf16) = V m c main_v13 :=
  Memref.read_access_unit_zero (Elt F) main_v13 (funext fun a => Nat.zero_mul _) (fun a => by simp) _
theorem blk_v2 : (iblk m c 6 t : Vec F S6x1x8192 .f32) = V m c main_v15 :=
  Memref.read_access_unit_zero (Elt F) main_v15 (funext fun a => Nat.zero_mul _) (fun a => by simp) _

end Blocks

/-! ## On the extended reals, entry by entry -/

section AtIndex
variable (m : (ℓ : Loc nD τ sig) → Buf (Elt Ideal) ℓ) (c : Dev nD) (t : Fin cfg0.N)

/-- The parameters the arguments hold. -/
def par : Rows.Par where
  w1 i d k := mem m c main_arg1 (ix3 i d k)
  v1 i k := mem m c main_arg2 (ix2 i k)
  bk i j k := mem m c main_arg3 (ix3 i j k)
  w2 i k d := mem m c main_arg4 (ix3 i k d)
  v2 i d := mem m c main_arg5 (ix2 i d)

theorem units_at (w : FVec Ideal S6x1024x8 .f32) (i : Fin 6) (j : Fin 1024) (k : Fin 8) :
    units w (ix3 i j k) = Rows.unit (fun k => w (ix3 i j k)) k := by
  unfold units Rows.unit Rows.eps
  pointwise

theorem cast_v1 (y : FVec Ideal S6x8 .f32) (i : Fin 6) (k : Fin 8) : shapeCast S6x1x8 y shapeCasts_S6x8_S6x1x8 (ix3 i 0 k) = y (ix2 i k) := by
  pointwise
theorem cast_v2 (y : FVec Ideal S6x8192 .f32) (i : Fin 6) (d : Fin 8192) :
    shapeCast S6x1x8192 y shapeCasts_S6x8192_S6x1x8192 (ix3 i 0 d) = y (ix2 i d) := by
  pointwise

theorem w1_at (i : Fin 6) (d : Fin 8192) (k : Fin 8) : (iblk m c 1 t : Vec Ideal S6x8192x8 .bf16) (ix3 i d k) = (par m c).w1 i d k := by
  rw [blk_w1, V_w1]; rfl
theorem v1_at (i : Fin 6) (k : Fin 8) : (iblk m c 2 t : Vec Ideal S6x1x8 .f32) (ix3 i 0 k) = (par m c).v1 i k := by
  rw [blk_v1, V_v1]
  exact cast_v1 _ i k
theorem cn_at (i : Fin 6) (j : Fin 1024) (k : Fin 8) :
    (iblk m c 3 t : Vec Ideal S6x1024x8 .bf16) (ix3 i j k) = Rows.unit ((par m c).bk i j) k := by
  rw [blk_cn, V_cn]
  exact units_at _ i j k
theorem ct_at (i : Fin 6) (k : Fin 8) (j : Fin 1024) :
    (iblk m c 4 t : Vec Ideal S6x8x1024 .bf16) (ix3 i k j) = Rows.unit ((par m c).bk i j) k := by
  rw [blk_ct, V_ct]
  refine Eq.trans ?_ (units_at _ i j k)
  generalize units (F := Ideal) _ = u
  pointwise
theorem w2_at (i : Fin 6) (k : Fin 8) (d : Fin 8192) : (iblk m c 5 t : Vec Ideal S6x8x8192 .bf16) (ix3 i k d) = (par m c).w2 i k d := by
  rw [blk_w2, V_w2]; rfl
theorem v2_at (i : Fin 6) (d : Fin 8192) : (iblk m c 6 t : Vec Ideal S6x1x8192 .f32) (ix3 i 0 d) = (par m c).v2 i d := by
  rw [blk_v2, V_v2]
  exact cast_v2 _ i d

end AtIndex

end Cert.KerHost

end
-- ==== Proof.KerStep.lean ====
/-
  The kernel's body as one step per codebook over three things: the stores made so far into the output block and into the
  scratch block (last first), and the running sum of square differences. The stores that the body's run leaves are these.
-/
module

public import proofs.«01_k».proof.Proof.Gen.KernelIdeal.Frame

@[expose] public section

noncomputable section

namespace Cert.KerStep

open Cert.KernelIdeal Cert.KernelIdeal.Gen Idealize.ShloMosaic Idealize.SL.Sem

variable {F : FTy → Type} [FloatOps F]

/-- What the body loads from its inputs: column chunk `k` of the activations' rows, and codebook `i`'s weights. -/
structure Loads (F : FTy → Type) where
  z : Fin 4 → Vec F S512x2048 .f32
  w1 : Fin 6 → Vec F S1x8192x8 .bf16
  v1 : Fin 6 → Vec F S1x1x8 .f32
  cn : Fin 6 → Vec F S1x1024x8 .bf16
  ct : Fin 6 → Vec F S1x8x1024 .bf16
  w2 : Fin 6 → Fin 4 → Vec F S1x8x2048 .bf16
  v2 : Fin 6 → Fin 4 → Vec F S1x1x2048 .f32

/-- The rows' projections. -/
def proj (v : Vec F S512x8192 .bf16) (w : Vec F S1x8192x8 .bf16) (b : Vec F S1x1x8 .f32) : FVec F S512x8 .f32 :=
  addf (matmul dot_S512x8192_S8192x8_S512x8_1_0_0_1_n_n none v (shapeCast S8192x8 w shapeCasts_S1x8192x8_S8192x8 : FVec F S8192x8 .bf16)
      (constant S512x8 .f32 0x00000000#32))
    (broadcastTo S512x8 (shapeCast S1x8 b shapeCasts_S1x1x8_S1x8 : FVec F S1x8 .f32) broadcasts_S1x8_S512x8)

/-- Each row of eight numbers divided by its length plus a small constant. -/
def unit (z : FVec F S512x8 .f32) : FVec F S512x8 .f32 :=
  divf z (broadcastTo S512x8 (addf (sqrt (shapeCast S512x1 (multiReduction .add [1] S512 (mulf z z) 0x00000000#32 reduces_S512x8_S512
      (.inl rfl) rfl : FVec F S512 .f32) shapeCasts_S512_S512x1)) (broadcast S512x1 (Scalar.ofBits .f32 0x322BCC77#32))) broadcasts_S512x1_S512x8)

/-- Each row's products with the codebook's entries. -/
def sims (zn : FVec F S512x8 .f32) (w : Vec F S1x8x1024 .bf16) : FVec F S512x1024 .f32 :=
  matmul dot_S512x8_S8x1024_S512x1024_1_0_0_1_n_n none (truncf .bf16 zn bitsLt_bf16_f32 : FVec F S512x8 .bf16)
    (shapeCast S8x1024 w shapeCasts_S1x8x1024_S8x1024 : FVec F S8x1024 .bf16) (constant S512x1024 .f32 0x00000000#32)

/-- The column numbers. -/
def cols : IVec S512x1024 32 := iota .tc S512x1024 32 [1] iota_S512x1024_d1_w32

/-- Each row's least column that holds the row's maximum. -/
def pick (sim : FVec F S512x1024 .f32) : IVec S512 32 :=
  multiReductionI .minsi [1] S512 (select (cmpf .oeq sim (broadcastTo S512x1024 (shapeCast S512x1 (multiReduction .maximumf [1] S512 sim
      0xFF800000#32 reduces_S512x1024_S512 (.inl rfl) rfl : FVec F S512 .f32) shapeCasts_S512_S512x1) broadcasts_S512x1_S512x1024)) cols
    (broadcast S512x1024 1024#32)) 2147483647#32 reduces_S512x1024_S512 rfl

/-- One in the picked column of each row, zero elsewhere. -/
def oneHot (ix : IVec S512 32) : FVec F S512x1024 .bf16 :=
  truncf .bf16 (sitofp .f32 (extui 32 (cmpi .eq cols (broadcastTo S512x1024 (shapeCast S512x1 ix shapeCasts_S512_S512x1)
    broadcasts_S512x1_S512x1024)) natLt_1_32) : FVec F S512x1024 .f32) bitsLt_bf16_f32

/-- The picked entries. -/
def quant (sim : FVec F S512x1024 .f32) (w : Vec F S1x1024x8 .bf16) : FVec F S512x8 .f32 :=
  matmul dot_S512x1024_S1024x8_S512x8_1_0_0_1_n_n none (oneHot (pick sim)) (shapeCast S1024x8 w shapeCasts_S1x1024x8_S1024x8 : FVec F S1024x8 .bf16)
    (constant S512x8 .f32 0x00000000#32)

/-- One where the column (a row of the input) belongs to the row (a batch), zero elsewhere. -/
def sel : FVec F S8x512 .bf16 := k0_pay9 (iota .tc S8x512 32 [1] iota_S8x512_d1_w32) 64#32 k0_pay7 k0_pay8 1#1

/-- The running sum with one codebook's square differences added. -/
def addSq (cm : FVec F S8x8 .f32) (zn q : FVec F S512x8 .f32) : FVec F S8x8 .f32 :=
  addf cm (matmul dot_S8x512_S512x8_S8x8_1_0_0_1_n_n none sel (truncf .bf16 (mulf (subf zn q) (subf zn q)) bitsLt_bf16_f32 : FVec F S512x8 .bf16)
    (constant S8x8 .f32 0x00000000#32))

/-- One chunk of the reconstruction. -/
def recon (q : FVec F S512x8 .f32) (w : Vec F S1x8x2048 .bf16) (b : Vec F S1x1x2048 .f32) : FVec F S512x2048 .f32 :=
  addf (matmul dot_S512x8_S8x2048_S512x2048_1_0_0_1_n_n none (truncf .bf16 q bitsLt_bf16_f32 : FVec F S512x8 .bf16)
      (shapeCast S8x2048 w shapeCasts_S1x8x2048_S8x2048 : FVec F S8x2048 .bf16) (constant S512x2048 .f32 0x00000000#32))
    (broadcastTo S512x2048 (shapeCast S1x2048 b shapeCasts_S1x1x2048_S1x2048 : FVec F S1x2048 .f32) broadcasts_S1x2048_S512x2048)

/-- A loaded chunk. -/
def chunk (x : Vec F S512x2048 .f32) : FVec F S512x2048 .f32 := shapeCast S512x2048 x shapeCasts_S512x2048_S512x2048

/-- A chunk as the scratch block keeps it. -/
def keep (x : FVec F S512x2048 .f32) : FVec F S512x2048 .bf16 :=
  shapeCast S512x2048 (truncf .bf16 x bitsLt_bf16_f32 : FVec F S512x2048 .bf16) shapeCasts_S512x2048_S512x2048

/-- Chunk `k`'s columns. -/
theorem inb_chunk (k : Fin 4) : ∀ a, (![0, 2048 * k.val] : Fin 2 → Nat) a + S512x2048.size a ≤ S512x8192.size a := by
  revert k; decide
@[inherit_doc inb_chunk] def rc (k : Fin 4) : Rect S512x8192 := Rect.unit ![0, 2048 * k.val] S512x2048.size (inb_chunk k)
/-- All the columns. -/
def rw : Rect S512x8192 := Rect.unit ![0, 0] S512x8192.size inb_S512x8192_S512x8192_0_0

/-- The stores so far and the running sum. -/
structure KState (F : FTy → Type) where
  out : List (View.Piece (Elt F) S512x8192 .f32)
  scr : List (View.Piece (Elt F) S512x8192 .bf16)
  cm : FVec F S8x8 .f32

variable (P : Loads F) {κ7 κ9 : Kind} {p7 p9 : Space} {sg7 sg9 : RefSig} (v7 : View sg7 κ7 p7 S512x8192 .f32) (v9 : View sg9 κ9 p9 S512x8192 .bf16)

/-- Codebook `i`'s unit rows for what the scratch block holds, and the entries picked for them. -/
def zn (i : Fin 6) (s : KState F) : FVec F S512x8 .f32 := unit (proj (v9.readCov s.scr rw.toLoadRect) (P.w1 i) (P.v1 i))
@[inherit_doc zn] def qn (i : Fin 6) (s : KState F) : FVec F S512x8 .f32 := quant (sims (zn P v9 i s) (P.ct i)) (P.cn i)

/-- One chunk's stores. -/
def put (k : Fin 4) (x : FVec F S512x2048 .f32) (s : KState F) : KState F := ⟨⟨rc k, x⟩ :: s.out, ⟨rc k, keep x⟩ :: s.scr, s.cm⟩
@[inherit_doc put] def putOut (k : Fin 4) (x : FVec F S512x2048 .f32) (s : KState F) : KState F := ⟨⟨rc k, x⟩ :: s.out, s.scr, s.cm⟩

/-- The first codebook takes its reconstruction from the input's chunk, -/
def put0 (i : Fin 6) (q : FVec F S512x8 .f32) (k : Fin 4) (s : KState F) : KState F :=
  put k (subf (chunk (P.z k)) (recon q (P.w2 i k) (P.v2 i k))) s
/-- the next four from the chunk in the output block, -/
def putMid (i : Fin 6) (q : FVec F S512x8 .f32) (k : Fin 4) (s : KState F) : KState F :=
  put k (subf (chunk (v7.readCov s.out (rc k).toLoadRect)) (recon q (P.w2 i k) (P.v2 i k))) s
/-- and the last adds its own to what the earlier ones took from the input. -/
def putEnd (i : Fin 6) (q : FVec F S512x8 .f32) (k : Fin 4) (s : KState F) : KState F :=
  putOut k (addf (subf (chunk (P.z k)) (chunk (v7.readCov s.out (rc k).toLoadRect))) (recon q (P.w2 i k) (P.v2 i k))) s

/-- A codebook's four chunks in turn, with the running sum. -/
def stepWith (put : Fin 4 → KState F → KState F) (cm : FVec F S8x8 .f32) (s : KState F) : KState F :=
  let t := put 3 (put 2 (put 1 (put 0 s)))
  ⟨t.out, t.scr, cm⟩

/-- The six codebooks' steps. -/
def step0 (s : KState F) : KState F := stepWith (put0 P 0 (qn P v9 0 s)) (addSq s.cm (zn P v9 0 s) (qn P v9 0 s)) s
@[inherit_doc step0] def stepMid (i : Fin 6) (s : KState F) : KState F :=
  stepWith (putMid P v7 i (qn P v9 i s)) (addSq s.cm (zn P v9 i s) (qn P v9 i s)) s
@[inherit_doc step0] def stepEnd (i : Fin 6) (s : KState F) : KState F :=
  stepWith (putEnd P v7 i (qn P v9 i s)) (addSq s.cm (zn P v9 i s) (qn P v9 i s)) s

/-- The start: the scratch block filled from the input. -/
def start : KState F :=
  ⟨[], [⟨rc 3, keep (chunk (P.z 3))⟩, ⟨rc 2, keep (chunk (P.z 2))⟩, ⟨rc 1, keep (chunk (P.z 1))⟩, ⟨rc 0, keep (chunk (P.z 0))⟩],
    broadcast S8x8 (Scalar.ofBits .f32 0x00000000#32)⟩

/-- All six. -/
def all : KState F :=
  stepEnd P v7 v9 5 (stepMid P v7 v9 4 (stepMid P v7 v9 3 (stepMid P v7 v9 2 (stepMid P v7 v9 1 (step0 P v9 (start P))))))

/-- The loss: the running sum's rows added up, times a constant. -/
def loss (cm : FVec F S8x8 .f32) : FVec F S8x1 .f32 := k0_pay2 cm

section Run

variable (c : Dev nD) (arg0 : Memref sig .tc .vmem S512x8192 .f32) (harg0 : arg0.IsWhole) (arg1 : Memref sig .tc .vmem S6x8192x8 .bf16) (harg1 : arg1.IsWhole) (arg2 : Memref sig .tc .vmem S6x1x8 .f32) (harg2 : arg2.IsWhole) (arg3 : Memref sig .tc .vmem S6x1024x8 .bf16) (harg3 : arg3.IsWhole) (arg4 : Memref sig .tc .vmem S6x8x1024 .bf16) (harg4 : arg4.IsWhole) (arg5 : Memref sig .tc .vmem S6x8x8192 .bf16) (harg5 : arg5.IsWhole) (arg6 : Memref sig .tc .vmem S6x1x8192 .f32) (harg6 : arg6.IsWhole) (arg7 : Memref sig .tc .vmem S512x8192 .f32) (harg7 : arg7.IsWhole) (arg8 : Memref sig .tc .vmem S8x1 .f32) (harg8 : arg8.IsWhole) (arg9 : Memref sig .tc .vmem S512x8192 .bf16) (harg9 : arg9.IsWhole)
    (x0 : Vec F S512x8192 .f32) (x1 : Vec F S6x8192x8 .bf16) (x2 : Vec F S6x1x8 .f32) (x3 : Vec F S6x1024x8 .bf16) (x4 : Vec F S6x8x1024 .bf16) (x5 : Vec F S6x8x8192 .bf16) (x6 : Vec F S6x1x8192 .f32)

/-- Codebook `i`'s slab of each stacked input lies inside it. -/
theorem in1 (i : Fin 6) : ∀ a, (![i.val, 0, 0] : Fin 3 → Nat) a + S1x8192x8.size a ≤ S6x8192x8.size a := by revert i; decide
@[inherit_doc in1] theorem in2 (i : Fin 6) : ∀ a, (![i.val, 0, 0] : Fin 3 → Nat) a + S1x1x8.size a ≤ S6x1x8.size a := by revert i; decide
@[inherit_doc in1] theorem in3 (i : Fin 6) : ∀ a, (![i.val, 0, 0] : Fin 3 → Nat) a + S1x1024x8.size a ≤ S6x1024x8.size a := by revert i; decide
@[inherit_doc in1] theorem in4 (i : Fin 6) : ∀ a, (![i.val, 0, 0] : Fin 3 → Nat) a + S1x8x1024.size a ≤ S6x8x1024.size a := by revert i; decide
@[inherit_doc in1] theorem in5 (i : Fin 6) (k : Fin 4) : ∀ a, (![i.val, 0, 2048 * k.val] : Fin 3 → Nat) a + S1x8x2048.size a ≤ S6x8x8192.size a := by
  revert i k; decide
@[inherit_doc in1] theorem in6 (i : Fin 6) (k : Fin 4) : ∀ a, (![i.val, 0, 2048 * k.val] : Fin 3 → Nat) a + S1x1x2048.size a ≤ S6x1x8192.size a := by
  revert i k; decide

/-- Codebook `i`'s slab, or chunk `k` of it, of each stacked input. -/
def r1 (i : Fin 6) : Rect S6x8192x8 := Rect.unit ![i.val, 0, 0] S1x8192x8.size (in1 i)
@[inherit_doc r1] def r2 (i : Fin 6) : Rect S6x1x8 := Rect.unit ![i.val, 0, 0] S1x1x8.size (in2 i)
@[inherit_doc r1] def r3 (i : Fin 6) : Rect S6x1024x8 := Rect.unit ![i.val, 0, 0] S1x1024x8.size (in3 i)
@[inherit_doc r1] def r4 (i : Fin 6) : Rect S6x8x1024 := Rect.unit ![i.val, 0, 0] S1x8x1024.size (in4 i)
@[inherit_doc r1] def r5 (i : Fin 6) (k : Fin 4) : Rect S6x8x8192 := Rect.unit ![i.val, 0, 2048 * k.val] S1x8x2048.size (in5 i k)
@[inherit_doc r1] def r6 (i : Fin 6) (k : Fin 4) : Rect S6x1x8192 := Rect.unit ![i.val, 0, 2048 * k.val] S1x1x2048.size (in6 i k)

/-- The body's loads from its seven inputs. -/
def loads : Loads F where
  z k := View.readAt (Elt F) arg0.view (rc k).toLoadRect (harg0.unread x0)
  w1 i := View.readAt (Elt F) arg1.view (r1 i).toLoadRect (harg1.unread x1)
  v1 i := View.readAt (Elt F) arg2.view (r2 i).toLoadRect (harg2.unread x2)
  cn i := View.readAt (Elt F) arg3.view (r3 i).toLoadRect (harg3.unread x3)
  ct i := View.readAt (Elt F) arg4.view (r4 i).toLoadRect (harg4.unread x4)
  w2 i k := View.readAt (Elt F) arg5.view (r5 i k).toLoadRect (harg5.unread x5)
  v2 i k := View.readAt (Elt F) arg6.view (r6 i k).toLoadRect (harg6.unread x6)

end Run

end Cert.KerStep

end
-- ==== Proof.KerWords.lean ====
module

public import proofs.«01_k».proof.Proof.KerStep

@[expose] public section

noncomputable section

namespace Cert.KerWords

open Cert.KernelIdeal Cert.KernelIdeal.Gen Idealize.ShloMosaic Idealize.SL.Sem Cert.KerStep

variable {F : FTy → Type} [FloatOps F]
section Step

variable (P : Loads F) {κ7 κ9 : Kind} {p7 p9 : Space} {sg7 sg9 : RefSig} (v7 : View sg7 κ7 p7 S512x8192 .f32) (v9 : View sg9 κ9 p9 S512x8192 .bf16)

/-- A state is a step's result when its stores are the four chunks' in turn, whatever the lists between them are called. -/
theorem of_puts (g : Fin 4 → List (View.Piece (Elt F) S512x8192 .f32) → FVec F S512x2048 .f32) (s s' : KState F) (cm : FVec F S8x8 .f32)
    (H0 H1 H2 : List (View.Piece (Elt F) S512x8192 .f32)) (h0 : H0 = ⟨rc 0, g 0 s.out⟩ :: s.out) (h1 : H1 = ⟨rc 1, g 1 H0⟩ :: H0)
    (h2 : H2 = ⟨rc 2, g 2 H1⟩ :: H1) (h3 : s'.out = ⟨rc 3, g 3 H2⟩ :: H2)
    (hs : s'.scr = ⟨rc 3, keep (g 3 H2)⟩ :: ⟨rc 2, keep (g 2 H1)⟩ :: ⟨rc 1, keep (g 1 H0)⟩ :: ⟨rc 0, keep (g 0 s.out)⟩ :: s.scr) (hc : s'.cm = cm) :
    s' = stepWith (fun k t => put k (g k t.out) t) cm s := by
  obtain ⟨o, r, c⟩ := s'
  dsimp only at h3 hs hc
  subst h0 h1 h2 h3 hs hc
  rfl

/-- The same of the last step, which leaves the scratch block alone. -/
theorem of_putOuts (g : Fin 4 → List (View.Piece (Elt F) S512x8192 .f32) → FVec F S512x2048 .f32) (s s' : KState F) (cm : FVec F S8x8 .f32)
    (H0 H1 H2 : List (View.Piece (Elt F) S512x8192 .f32)) (h0 : H0 = ⟨rc 0, g 0 s.out⟩ :: s.out) (h1 : H1 = ⟨rc 1, g 1 H0⟩ :: H0)
    (h2 : H2 = ⟨rc 2, g 2 H1⟩ :: H1) (h3 : s'.out = ⟨rc 3, g 3 H2⟩ :: H2) (hs : s'.scr = s.scr) (hc : s'.cm = cm) :
    s' = stepWith (fun k t => putOut k (g k t.out) t) cm s := by
  obtain ⟨o, r, c⟩ := s'
  dsimp only at h3 hs hc
  subst h0 h1 h2 h3 hs hc
  rfl

/-- What a chunk's store writes, from the stores before it, for the first codebook, for the next four, and for the last. -/
def g0 (i : Fin 6) (q : FVec F S512x8 .f32) (k : Fin 4) (_ : List (View.Piece (Elt F) S512x8192 .f32)) : FVec F S512x2048 .f32 :=
  subf (chunk (P.z k)) (recon q (P.w2 i k) (P.v2 i k))
@[inherit_doc g0] def gMid (i : Fin 6) (q : FVec F S512x8 .f32) (k : Fin 4) (H : List (View.Piece (Elt F) S512x8192 .f32)) : FVec F S512x2048 .f32 :=
  subf (chunk (v7.readCov H (rc k).toLoadRect)) (recon q (P.w2 i k) (P.v2 i k))
@[inherit_doc g0] def gEnd (i : Fin 6) (q : FVec F S512x8 .f32) (k : Fin 4) (H : List (View.Piece (Elt F) S512x8192 .f32)) : FVec F S512x2048 .f32 :=
  addf (subf (chunk (P.z k)) (chunk (v7.readCov H (rc k).toLoadRect))) (recon q (P.w2 i k) (P.v2 i k))

end Step

section Run

variable (c : Dev nD) (arg0 : Memref sig .tc .vmem S512x8192 .f32) (harg0 : arg0.IsWhole) (arg1 : Memref sig .tc .vmem S6x8192x8 .bf16) (harg1 : arg1.IsWhole) (arg2 : Memref sig .tc .vmem S6x1x8 .f32) (harg2 : arg2.IsWhole) (arg3 : Memref sig .tc .vmem S6x1024x8 .bf16) (harg3 : arg3.IsWhole) (arg4 : Memref sig .tc .vmem S6x8x1024 .bf16) (harg4 : arg4.IsWhole) (arg5 : Memref sig .tc .vmem S6x8x8192 .bf16) (harg5 : arg5.IsWhole) (arg6 : Memref sig .tc .vmem S6x1x8192 .f32) (harg6 : arg6.IsWhole) (arg7 : Memref sig .tc .vmem S512x8192 .f32) (harg7 : arg7.IsWhole) (arg8 : Memref sig .tc .vmem S8x1 .f32) (harg8 : arg8.IsWhole) (arg9 : Memref sig .tc .vmem S512x8192 .bf16) (harg9 : arg9.IsWhole)
    (x0 : Vec F S512x8192 .f32) (x1 : Vec F S6x8192x8 .bf16) (x2 : Vec F S6x1x8 .f32) (x3 : Vec F S6x1024x8 .bf16) (x4 : Vec F S6x8x1024 .bf16) (x5 : Vec F S6x8x8192 .bf16) (x6 : Vec F S6x1x8192 .f32)

/-- The state before codebook 0. -/
def s0 : KState F :=
  ⟨[],
    kernelRun0_A.sl.HS0_4 c arg0 harg0 x0,
    k0_pay10⟩

/-- The state before codebook 1. -/
def s1 : KState F :=
  ⟨kernelRun0_A.sl.H7_4 c arg0 harg0 arg1 harg1 arg2 harg2 arg3 harg3 arg4 harg4 arg5 harg5 arg6 harg6 arg9 x0 x1 x2 x3 x4 x5 x6,
    kernelRun0_A.sl.HS0_8 c arg0 harg0 arg1 harg1 arg2 harg2 arg3 harg3 arg4 harg4 arg5 harg5 arg6 harg6 arg9 x0 x1 x2 x3 x4 x5 x6,
    kernelRun0_A.sl.r_4 c arg0 harg0 arg1 harg1 arg2 harg2 arg3 harg3 arg4 harg4 arg9 x0 x1 x2 x3 x4⟩

/-- The state before codebook 2. -/
def s2 : KState F :=
  ⟨kernelRun0_A.sl.H7_8 c arg0 harg0 arg1 harg1 arg2 harg2 arg3 harg3 arg4 harg4 arg5 harg5 arg6 harg6 arg7 arg9 x0 x1 x2 x3 x4 x5 x6,
    kernelRun0_A.sl.HS0_12 c arg0 harg0 arg1 harg1 arg2 harg2 arg3 harg3 arg4 harg4 arg5 harg5 arg6 harg6 arg7 arg9 x0 x1 x2 x3 x4 x5 x6,
    kernelRun0_A.sl.r_8 c arg0 harg0 arg1 harg1 arg2 harg2 arg3 harg3 arg4 harg4 arg5 harg5 arg6 harg6 arg9 x0 x1 x2 x3 x4 x5 x6⟩

/-- The state before codebook 3. -/
def s3 : KState F :=
  ⟨kernelRun0_A.sl.H7_12 c arg0 harg0 arg1 harg1 arg2 harg2 arg3 harg3 arg4 harg4 arg5 harg5 arg6 harg6 arg7 arg9 x0 x1 x2 x3 x4 x5 x6,
    kernelRun0_A.sl.HS0_16 c arg0 harg0 arg1 harg1 arg2 harg2 arg3 harg3 arg4 harg4 arg5 harg5 arg6 harg6 arg7 arg9 x0 x1 x2 x3 x4 x5 x6,
    kernelRun0_A.sl.r_14 c arg0 harg0 arg1 harg1 arg2 harg2 arg3 harg3 arg4 harg4 arg5 harg5 arg6 harg6 arg7 arg9 x0 x1 x2 x3 x4 x5 x6⟩

/-- The state before codebook 4. -/
def s4 : KState F :=
  ⟨kernelRun0_A.sl.H7_16 c arg0 harg0 arg1 harg1 arg2 harg2 arg3 harg3 arg4 harg4 arg5 harg5 arg6 harg6 arg7 arg9 x0 x1 x2 x3 x4 x5 x6,
    kernelRun0_A.sl.HS0_20 c arg0 harg0 arg1 harg1 arg2 harg2 arg3 harg3 arg4 harg4 arg5 harg5 arg6 harg6 arg7 arg9 x0 x1 x2 x3 x4 x5 x6,
    kernelRun0_A.sl.r_20 c arg0 harg0 arg1 harg1 arg2 harg2 arg3 harg3 arg4 harg4 arg5 harg5 arg6 harg6 arg7 arg9 x0 x1 x2 x3 x4 x5 x6⟩

/-- The state before codebook 5. -/
def s5 : KState F :=
  ⟨kernelRun0_A.sl.H7_20 c arg0 harg0 arg1 harg1 arg2 harg2 arg3 harg3 arg4 harg4 arg5 harg5 arg6 harg6 arg7 arg9 x0 x1 x2 x3 x4 x5 x6,
    kernelRun0_A.sl.HS0_24 c arg0 harg0 arg1 harg1 arg2 harg2 arg3 harg3 arg4 harg4 arg5 harg5 arg6 harg6 arg7 arg9 x0 x1 x2 x3 x4 x5 x6,
    kernelRun0_A.sl.r_26 c arg0 harg0 arg1 harg1 arg2 harg2 arg3 harg3 arg4 harg4 arg5 harg5 arg6 harg6 arg7 arg9 x0 x1 x2 x3 x4 x5 x6⟩

/-- The state after the last codebook. -/
def s6 : KState F :=
  ⟨(kernelRun0_A c arg0 harg0 arg1 harg1 arg2 harg2 arg3 harg3 arg4 harg4 arg5 harg5 arg6 harg6 arg7 harg7 arg8 harg8 arg9 harg9 x0 x1 x2 x3 x4 x5 x6).1,
    kernelRun0_A.sl.HS0_24 c arg0 harg0 arg1 harg1 arg2 harg2 arg3 harg3 arg4 harg4 arg5 harg5 arg6 harg6 arg7 arg9 x0 x1 x2 x3 x4 x5 x6,
    kernelRun0_A.sl.r_33 c arg0 harg0 arg1 harg1 arg2 harg2 arg3 harg3 arg4 harg4 arg5 harg5 arg6 harg6 arg7 arg9 x0 x1 x2 x3 x4 x5 x6⟩

/-- Each state is its codebook's step of the one before. -/
theorem s0_eq : s0 c arg0 harg0 x0 = start (loads arg0 harg0 arg1 harg1 arg2 harg2 arg3 harg3 arg4 harg4 arg5 harg5 arg6 harg6 x0 x1 x2 x3 x4 x5 x6) := by exact rfl
@[inherit_doc s0_eq] theorem s2_eq : s2 c arg0 harg0 arg1 harg1 arg2 harg2 arg3 harg3 arg4 harg4 arg5 harg5 arg6 harg6 arg7 arg9 x0 x1 x2 x3 x4 x5 x6 = stepMid (loads arg0 harg0 arg1 harg1 arg2 harg2 arg3 harg3 arg4 harg4 arg5 harg5 arg6 harg6 x0 x1 x2 x3 x4 x5 x6) arg7.view arg9.view 1 (s1 c arg0 harg0 arg1 harg1 arg2 harg2 arg3 harg3 arg4 harg4 arg5 harg5 arg6 harg6 arg9 x0 x1 x2 x3 x4 x5 x6) :=
  of_puts (gMid (loads arg0 harg0 arg1 harg1 arg2 harg2 arg3 harg3 arg4 harg4 arg5 harg5 arg6 harg6 x0 x1 x2 x3 x4 x5 x6) arg7.view 1 (qn (loads arg0 harg0 arg1 harg1 arg2 harg2 arg3 harg3 arg4 harg4 arg5 harg5 arg6 harg6 x0 x1 x2 x3 x4 x5 x6) arg9.view 1 (s1 c arg0 harg0 arg1 harg1 arg2 harg2 arg3 harg3 arg4 harg4 arg5 harg5 arg6 harg6 arg9 x0 x1 x2 x3 x4 x5 x6))) _ _ _
    (kernelRun0_A.sl.H7_5 c arg0 harg0 arg1 harg1 arg2 harg2 arg3 harg3 arg4 harg4 arg5 harg5 arg6 harg6 arg7 arg9 x0 x1 x2 x3 x4 x5 x6) (kernelRun0_A.sl.H7_6 c arg0 harg0 arg1 harg1 arg2 harg2 arg3 harg3 arg4 harg4 arg5 harg5 arg6 harg6 arg7 arg9 x0 x1 x2 x3 x4 x5 x6) (kernelRun0_A.sl.H7_7 c arg0 harg0 arg1 harg1 arg2 harg2 arg3 harg3 arg4 harg4 arg5 harg5 arg6 harg6 arg7 arg9 x0 x1 x2 x3 x4 x5 x6)
    (by exact rfl) (by exact rfl) (by exact rfl) (by exact rfl) (by exact rfl) (by exact rfl)
@[inherit_doc s0_eq] theorem s3_eq : s3 c arg0 harg0 arg1 harg1 arg2 harg2 arg3 harg3 arg4 harg4 arg5 harg5 arg6 harg6 arg7 arg9 x0 x1 x2 x3 x4 x5 x6 = stepMid (loads arg0 harg0 arg1 harg1 arg2 harg2 arg3 harg3 arg4 harg4 arg5 harg5 arg6 harg6 x0 x1 x2 x3 x4 x5 x6) arg7.view arg9.view 2 (s2 c arg0 harg0 arg1 harg1 arg2 harg2 arg3 harg3 arg4 harg4 arg5 harg5 arg6 harg6 arg7 arg9 x0 x1 x2 x3 x4 x5 x6) :=
  of_puts (gMid (loads arg0 harg0 arg1 harg1 arg2 harg2 arg3 harg3 arg4 harg4 arg5 harg5 arg6 harg6 x0 x1 x2 x3 x4 x5 x6) arg7.view 2 (qn (loads arg0 harg0 arg1 harg1 arg2 harg2 arg3 harg3 arg4 harg4 arg5 harg5 arg6 harg6 x0 x1 x2 x3 x4 x5 x6) arg9.view 2 (s2 c arg0 harg0 arg1 harg1 arg2 harg2 arg3 harg3 arg4 harg4 arg5 harg5 arg6 harg6 arg7 arg9 x0 x1 x2 x3 x4 x5 x6))) _ _ _
    (kernelRun0_A.sl.H7_9 c arg0 harg0 arg1 harg1 arg2 harg2 arg3 harg3 arg4 harg4 arg5 harg5 arg6 harg6 arg7 arg9 x0 x1 x2 x3 x4 x5 x6) (kernelRun0_A.sl.H7_10 c arg0 harg0 arg1 harg1 arg2 harg2 arg3 harg3 arg4 harg4 arg5 harg5 arg6 harg6 arg7 arg9 x0 x1 x2 x3 x4 x5 x6) (kernelRun0_A.sl.H7_11 c arg0 harg0 arg1 harg1 arg2 harg2 arg3 harg3 arg4 harg4 arg5 harg5 arg6 harg6 arg7 arg9 x0 x1 x2 x3 x4 x5 x6)
    (by exact rfl) (by exact rfl) (by exact rfl) (by exact rfl) (by exact rfl) (by exact rfl)
@[inherit_doc s0_eq] theorem s4_eq : s4 c arg0 harg0 arg1 harg1 arg2 harg2 arg3 harg3 arg4 harg4 arg5 harg5 arg6 harg6 arg7 arg9 x0 x1 x2 x3 x4 x5 x6 = stepMid (loads arg0 harg0 arg1 harg1 arg2 harg2 arg3 harg3 arg4 harg4 arg5 harg5 arg6 harg6 x0 x1 x2 x3 x4 x5 x6) arg7.view arg9.view 3 (s3 c arg0 harg0 arg1 harg1 arg2 harg2 arg3 harg3 arg4 harg4 arg5 harg5 arg6 harg6 arg7 arg9 x0 x1 x2 x3 x4 x5 x6) :=
  of_puts (gMid (loads arg0 harg0 arg1 harg1 arg2 harg2 arg3 harg3 arg4 harg4 arg5 harg5 arg6 harg6 x0 x1 x2 x3 x4 x5 x6) arg7.view 3 (qn (loads arg0 harg0 arg1 harg1 arg2 harg2 arg3 harg3 arg4 harg4 arg5 harg5 arg6 harg6 x0 x1 x2 x3 x4 x5 x6) arg9.view 3 (s3 c arg0 harg0 arg1 harg1 arg2 harg2 arg3 harg3 arg4 harg4 arg5 harg5 arg6 harg6 arg7 arg9 x0 x1 x2 x3 x4 x5 x6))) _ _ _
    (kernelRun0_A.sl.H7_13 c arg0 harg0 arg1 harg1 arg2 harg2 arg3 harg3 arg4 harg4 arg5 harg5 arg6 harg6 arg7 arg9 x0 x1 x2 x3 x4 x5 x6) (kernelRun0_A.sl.H7_14 c arg0 harg0 arg1 harg1 arg2 harg2 arg3 harg3 arg4 harg4 arg5 harg5 arg6 harg6 arg7 arg9 x0 x1 x2 x3 x4 x5 x6) (kernelRun0_A.sl.H7_15 c arg0 harg0 arg1 harg1 arg2 harg2 arg3 harg3 arg4 harg4 arg5 harg5 arg6 harg6 arg7 arg9 x0 x1 x2 x3 x4 x5 x6)
    (by exact rfl) (by exact rfl) (by exact rfl) (by exact rfl) (by exact rfl) (by exact rfl)
@[inherit_doc s0_eq] theorem s5_eq : s5 c arg0 harg0 arg1 harg1 arg2 harg2 arg3 harg3 arg4 harg4 arg5 harg5 arg6 harg6 arg7 arg9 x0 x1 x2 x3 x4 x5 x6 = stepMid (loads arg0 harg0 arg1 harg1 arg2 harg2 arg3 harg3 arg4 harg4 arg5 harg5 arg6 harg6 x0 x1 x2 x3 x4 x5 x6) arg7.view arg9.view 4 (s4 c arg0 harg0 arg1 harg1 arg2 harg2 arg3 harg3 arg4 harg4 arg5 harg5 arg6 harg6 arg7 arg9 x0 x1 x2 x3 x4 x5 x6) :=
  of_puts (gMid (loads arg0 harg0 arg1 harg1 arg2 harg2 arg3 harg3 arg4 harg4 arg5 harg5 arg6 harg6 x0 x1 x2 x3 x4 x5 x6) arg7.view 4 (qn (loads arg0 harg0 arg1 harg1 arg2 harg2 arg3 harg3 arg4 harg4 arg5 harg5 arg6 harg6 x0 x1 x2 x3 x4 x5 x6) arg9.view 4 (s4 c arg0 harg0 arg1 harg1 arg2 harg2 arg3 harg3 arg4 harg4 arg5 harg5 arg6 harg6 arg7 arg9 x0 x1 x2 x3 x4 x5 x6))) _ _ _
    (kernelRun0_A.sl.H7_17 c arg0 harg0 arg1 harg1 arg2 harg2 arg3 harg3 arg4 harg4 arg5 harg5 arg6 harg6 arg7 arg9 x0 x1 x2 x3 x4 x5 x6) (kernelRun0_A.sl.H7_18 c arg0 harg0 arg1 harg1 arg2 harg2 arg3 harg3 arg4 harg4 arg5 harg5 arg6 harg6 arg7 arg9 x0 x1 x2 x3 x4 x5 x6) (kernelRun0_A.sl.H7_19 c arg0 harg0 arg1 harg1 arg2 harg2 arg3 harg3 arg4 harg4 arg5 harg5 arg6 harg6 arg7 arg9 x0 x1 x2 x3 x4 x5 x6)
    (by exact rfl) (by exact rfl) (by exact rfl) (by exact rfl) (by exact rfl) (by exact rfl)
@[inherit_doc s0_eq] theorem s6_eq : s6 c arg0 harg0 arg1 harg1 arg2 harg2 arg3 harg3 arg4 harg4 arg5 harg5 arg6 harg6 arg7 harg7 arg8 harg8 arg9 harg9 x0 x1 x2 x3 x4 x5 x6 = stepEnd (loads arg0 harg0 arg1 harg1 arg2 harg2 arg3 harg3 arg4 harg4 arg5 harg5 arg6 harg6 x0 x1 x2 x3 x4 x5 x6) arg7.view arg9.view 5 (s5 c arg0 harg0 arg1 harg1 arg2 harg2 arg3 harg3 arg4 harg4 arg5 harg5 arg6 harg6 arg7 arg9 x0 x1 x2 x3 x4 x5 x6) :=
  of_putOuts (gEnd (loads arg0 harg0 arg1 harg1 arg2 harg2 arg3 harg3 arg4 harg4 arg5 harg5 arg6 harg6 x0 x1 x2 x3 x4 x5 x6) arg7.view 5 (qn (loads arg0 harg0 arg1 harg1 arg2 harg2 arg3 harg3 arg4 harg4 arg5 harg5 arg6 harg6 x0 x1 x2 x3 x4 x5 x6) arg9.view 5 (s5 c arg0 harg0 arg1 harg1 arg2 harg2 arg3 harg3 arg4 harg4 arg5 harg5 arg6 harg6 arg7 arg9 x0 x1 x2 x3 x4 x5 x6))) _ _ _
    (kernelRun0_A.sl.H7_21 c arg0 harg0 arg1 harg1 arg2 harg2 arg3 harg3 arg4 harg4 arg5 harg5 arg6 harg6 arg7 arg9 x0 x1 x2 x3 x4 x5 x6) (kernelRun0_A.sl.H7_22 c arg0 harg0 arg1 harg1 arg2 harg2 arg3 harg3 arg4 harg4 arg5 harg5 arg6 harg6 arg7 arg9 x0 x1 x2 x3 x4 x5 x6) (kernelRun0_A.sl.H7_23 c arg0 harg0 arg1 harg1 arg2 harg2 arg3 harg3 arg4 harg4 arg5 harg5 arg6 harg6 arg7 arg9 x0 x1 x2 x3 x4 x5 x6)
    (by exact rfl) (by exact rfl) (by exact rfl) (by exact rfl) (by exact rfl) (by exact rfl)
@[inherit_doc s0_eq] theorem s1_eq : s1 c arg0 harg0 arg1 harg1 arg2 harg2 arg3 harg3 arg4 harg4 arg5 harg5 arg6 harg6 arg9 x0 x1 x2 x3 x4 x5 x6 = step0 (loads arg0 harg0 arg1 harg1 arg2 harg2 arg3 harg3 arg4 harg4 arg5 harg5 arg6 harg6 x0 x1 x2 x3 x4 x5 x6) arg9.view (s0 c arg0 harg0 x0) :=
  of_puts (g0 (loads arg0 harg0 arg1 harg1 arg2 harg2 arg3 harg3 arg4 harg4 arg5 harg5 arg6 harg6 x0 x1 x2 x3 x4 x5 x6) 0 (qn (loads arg0 harg0 arg1 harg1 arg2 harg2 arg3 harg3 arg4 harg4 arg5 harg5 arg6 harg6 x0 x1 x2 x3 x4 x5 x6) arg9.view 0 (s0 c arg0 harg0 x0))) _ _ _ _ _ _ rfl rfl rfl
    (by exact rfl) (by exact rfl) (by exact rfl)

/-- The body's run is the six steps. -/
theorem s6_all : s6 c arg0 harg0 arg1 harg1 arg2 harg2 arg3 harg3 arg4 harg4 arg5 harg5 arg6 harg6 arg7 harg7 arg8 harg8 arg9 harg9 x0 x1 x2 x3 x4 x5 x6 = all (loads arg0 harg0 arg1 harg1 arg2 harg2 arg3 harg3 arg4 harg4 arg5 harg5 arg6 harg6 x0 x1 x2 x3 x4 x5 x6) arg7.view arg9.view := by
  rw [s6_eq, s5_eq, s4_eq, s3_eq, s2_eq, s1_eq, s0_eq c arg0 harg0 arg1 harg1 arg2 harg2 arg3 harg3 arg4 harg4 arg5 harg5 arg6 harg6 x0 x1 x2 x3 x4 x5 x6]
  rfl

/-- It leaves these stores in the output block, -/
theorem run_out : (kernelRun0_A c arg0 harg0 arg1 harg1 arg2 harg2 arg3 harg3 arg4 harg4 arg5 harg5 arg6 harg6 arg7 harg7 arg8 harg8 arg9 harg9 x0 x1 x2 x3 x4 x5 x6).1 = (all (loads arg0 harg0 arg1 harg1 arg2 harg2 arg3 harg3 arg4 harg4 arg5 harg5 arg6 harg6 x0 x1 x2 x3 x4 x5 x6) arg7.view arg9.view).out := congrArg KState.out (s6_all c arg0 harg0 arg1 harg1 arg2 harg2 arg3 harg3 arg4 harg4 arg5 harg5 arg6 harg6 arg7 harg7 arg8 harg8 arg9 harg9 x0 x1 x2 x3 x4 x5 x6)

/-- and this one in the losses' block. -/
theorem run_cm : (kernelRun0_A c arg0 harg0 arg1 harg1 arg2 harg2 arg3 harg3 arg4 harg4 arg5 harg5 arg6 harg6 arg7 harg7 arg8 harg8 arg9 harg9 x0 x1 x2 x3 x4 x5 x6).2.1 = [⟨Rect.unit ![0, 0] S8x1.size inb_S8x1_S8x1_0_0, loss (all (loads arg0 harg0 arg1 harg1 arg2 harg2 arg3 harg3 arg4 harg4 arg5 harg5 arg6 harg6 x0 x1 x2 x3 x4 x5 x6) arg7.view arg9.view).cm⟩] :=
  (show (kernelRun0_A c arg0 harg0 arg1 harg1 arg2 harg2 arg3 harg3 arg4 harg4 arg5 harg5 arg6 harg6 arg7 harg7 arg8 harg8 arg9 harg9 x0 x1 x2 x3 x4 x5 x6).2.1 = [⟨Rect.unit ![0, 0] S8x1.size inb_S8x1_S8x1_0_0, loss (s6 c arg0 harg0 arg1 harg1 arg2 harg2 arg3 harg3 arg4 harg4 arg5 harg5 arg6 harg6 arg7 harg7 arg8 harg8 arg9 harg9 x0 x1 x2 x3 x4 x5 x6).cm⟩] from rfl).trans
    (congrArg (fun s : KState F => [(⟨Rect.unit ![0, 0] S8x1.size inb_S8x1_S8x1_0_0, loss s.cm⟩ : View.Piece (Elt F) S8x1 .f32)]) (s6_all c arg0 harg0 arg1 harg1 arg2 harg2 arg3 harg3 arg4 harg4 arg5 harg5 arg6 harg6 arg7 harg7 arg8 harg8 arg9 harg9 x0 x1 x2 x3 x4 x5 x6))

end Run

end Cert.KerWords

end
-- ==== Proof.KerAt.lean ====
/-
  The kernel's body at `Ideal`, entry by entry: what its stores leave is the quantizer on each row.
-/
module

public import proofs.«01_k».proof.Proof.KerStep
public import proofs.«01_k».proof.Proof.Rows
public import Idealize.ShloMosaic.Lib.Pointwise

@[expose] public section

set_option maxRecDepth 16384

noncomputable section

namespace Cert.KerAt

open Cert.KernelIdeal Cert.KernelIdeal.Gen Idealize.ShloMosaic Cert.KerStep

/-- Column `d` of chunk `k`. -/
def col (k : Fin 4) (d : Fin 2048) : Fin 8192 := ⟨2048 * k.val + d.val, by omega⟩

/-- The loads read the parameters `P` and the rows. -/
structure Reads (L : Loads Ideal) (P : Rows.Par) (row : Fin 512 → Fin 8192 → EReal) : Prop where
  z k n d : L.z k (ix2 n d) = row n (col k d)
  w1 i d k : L.w1 i (ix3 0 d k) = P.w1 i d k
  v1 i k : L.v1 i (ix3 0 0 k) = P.v1 i k
  cn i c k : L.cn i (ix3 0 c k) = Rows.unit (P.bk i c) k
  ct i c k : L.ct i (ix3 0 k c) = Rows.unit (P.bk i c) k
  w2 i k j d : L.w2 i k (ix3 0 j d) = P.w2 i j (col k d)
  v2 i k d : L.v2 i k (ix3 0 0 d) = P.v2 i (col k d)

variable {L : Loads Ideal} {P : Rows.Par} {row : Fin 512 → Fin 8192 → EReal} (H : Reads L P row)

/-! ## One codebook's arithmetic -/

/-- The unit rows. -/
theorem unit_at (i : Fin 6) (v : Vec Ideal S512x8192 .bf16) (n : Fin 512) (r : Fin 8192 → EReal) (hv : ∀ d, v (ix2 n d) = r d) (k : Fin 8)
    (H : Reads L P row) : unit (proj v (L.w1 i) (L.v1 i)) (ix2 n k) = Rows.zn P i r k := by
  unfold unit proj
  pointwise
  simp only [H.w1, H.v1, hv]
  rfl

/-- The products with the entries. -/
theorem sims_at (i : Fin 6) (z : FVec Ideal S512x8 .f32) (n : Fin 512) (r : Fin 8192 → EReal) (hz : ∀ k, z (ix2 n k) = Rows.zn P i r k)
    (c : Fin 1024) (H : Reads L P row) : sims z (L.ct i) (ix2 n c) = Rows.sim P i r c := by
  unfold sims
  pointwise
  simp only [H.ct, hz]
  rfl

/-- A column number's word. -/
theorem cols_at (n : Fin 512) (c : Fin 1024) : cols (ix2 n c) = BitVec.ofNat 32 c.val := by
  unfold cols
  pointwise

/-- A column number's word is the number. -/
theorem toInt_col (c : Fin 1024) : (BitVec.ofNat 32 c.val).toInt = c.val := by
  have := c.isLt
  rw [BitVec.toInt_eq_toNat_cond, BitVec.toNat_ofNat, Nat.mod_eq_of_lt (by omega), if_pos (by omega)]

/-- The word of a bit, as a number. -/
theorem bit_at (p : Prop) [Decidable p] :
    (FloatOps.sitofp .f32 (BitVec.setWidth 32 (BitVec.ofBool (decide p))) : Ideal .f32) = if p then (1 : EReal) else 0 := by
  show (((BitVec.setWidth 32 (BitVec.ofBool (decide p))).toInt : ℝ) : EReal) = _
  by_cases h : p <;> simp [h]

/-- Two column numbers' words agree when the numbers do. -/
theorem col_eq (a b : Fin 1024) : IntOp.cmpi .eq (BitVec.ofNat 32 a.val) (BitVec.ofNat 32 b.val) = BitVec.ofBool (decide (a = b)) := by
  show BitVec.ofBool (_ == _) = _
  congr 1
  rw [beq_eq_decide]
  refine decide_eq_decide.mpr ⟨fun h => Fin.ext ?_, fun h => by rw [h]⟩
  have := congrArg BitVec.toInt h
  rw [toInt_col, toInt_col] at this
  exact_mod_cast this

/-- The picked column is the first greatest. -/
theorem pick_at (f : FVec Ideal S512x1024 .f32) (n : Fin 512) (g : Fin 1024 → EReal) (hf : ∀ c, f (ix2 n c) = g c) :
    pick f (ix1 n) = BitVec.ofNat 32 (Rows.best g).val := by
  unfold pick
  pointwise
  simp only [hf, cols_at]
  have hm : Finset.fold max (Ideal.ofBits .f32 0xFF800000#32) g Finset.univ = g (Rows.best g) := by
    apply le_antisymm
    · rw [Finset.fold_max_le]
      exact ⟨by simp [Ideal.ofBits, Ideal.ieee], fun c _ => Rows.le_best g c⟩
    · rw [Finset.le_fold_max]
      exact .inr ⟨_, Finset.mem_univ _, le_rfl⟩
  rw [hm]
  refine (Rows.fold_minsi _ _ (BitVec.ofNat 32 (Rows.best g).val) _ ?_ ?_).2 ⟨Rows.best g, Finset.mem_univ _, if_pos rfl⟩
  · rw [toInt_col]; have := (Rows.best g).isLt; show _ ≤ (2147483647 : Int); omega
  · intro c _
    split
    · rename_i h
      rw [toInt_col, toInt_col]
      have : Rows.best g ≤ c := Rows.best_le fun c' => h ▸ Rows.le_best g c'
      exact_mod_cast this
    · rw [toInt_col]; have := (Rows.best g).isLt; show _ ≤ (1024 : Int); omega

/-- The picked entries. -/
theorem quant_at (i : Fin 6) (f : FVec Ideal S512x1024 .f32) (n : Fin 512) (r : Fin 8192 → EReal) (hf : ∀ c, f (ix2 n c) = Rows.sim P i r c)
    (k : Fin 8) (H : Reads L P row) : quant f (L.cn i) (ix2 n k) = Rows.qn P i r k := by
  unfold quant oneHot
  pointwise
  simp only [H.cn, cols_at, pick_at f n _ hf, col_eq, bit_at, ite_mul, one_mul, zero_mul, Finset.sum_ite_eq', Finset.mem_univ, if_true]
  rfl

/-- One chunk of the reconstruction. -/
theorem recon_at (i : Fin 6) (q : FVec Ideal S512x8 .f32) (n : Fin 512) (r : Fin 8192 → EReal) (hq : ∀ k, q (ix2 n k) = Rows.qn P i r k)
    (k : Fin 4) (d : Fin 2048) (H : Reads L P row) : recon q (L.w2 i k) (L.v2 i k) (ix2 n d) = Rows.zq P i r (col k d) := by
  unfold recon
  pointwise
  simp only [H.w2, H.v2, hq]
  rfl

/-- The selection of a batch's rows. -/
theorem sel_at (b : Fin 8) (n : Fin 512) : (sel (F := Ideal) (ix2 b n) : EReal) = if n.val / 64 = b.val then 1 else 0 := by
  unfold sel k0_pay9 k0_pay8 k0_pay7
  pointwise
  have h : ∀ (b : Fin 8) (n : Fin 512), IntOp.cmpi .eq (Scalar.select
      (IntOp.andi (IntOp.cmpi .ne (IntOp.subi (BitVec.setWidth 32 (IntOp.cmpi .sgt (BitVec.ofNat 32 n.val) 0#32))
          (BitVec.setWidth 32 (IntOp.cmpi .slt (BitVec.ofNat 32 n.val) 0#32)))
          (Scalar.subi (Scalar.extui 1#1) (Scalar.extui (Scalar.cmpi .slt 64#32 0#32))))
        (IntOp.cmpi .ne (IntOp.remsi ArithUnit.vector (BitVec.ofNat 32 n.val) 64#32) 0#32))
      (IntOp.subi (IntOp.divsi ArithUnit.vector (BitVec.ofNat 32 n.val) 64#32) 1#32)
      (IntOp.divsi ArithUnit.vector (BitVec.ofNat 32 n.val) 64#32)) (BitVec.ofNat 32 b.val) = BitVec.ofBool (decide (n.val / 64 = b.val)) := by
    decide +kernel
  rw [h, bit_at]

end Cert.KerAt

end
-- ==== Proof.KerAll.lean ====
/-
  What the kernel's stores leave, entry by entry: each row's quantization and each batch's loss.
-/
module

public import proofs.«01_k».proof.Proof.KerAt
public import Idealize.ShloMosaic.Lib.Pipeline.Value

@[expose] public section

set_option maxRecDepth 16384

noncomputable section

namespace Cert.KerAll

open Cert.KernelIdeal Cert.KernelIdeal.Gen Idealize.ShloMosaic Cert.KerStep Cert.KerAt

variable {L : Loads Ideal} {P : Rows.Par} {row : Fin 512 → Fin 8192 → EReal}

/-! ## The losses -/

/-- The rows of a batch among all the rows. -/
def rowOf (b : Fin 8) (t : Fin 64) : Fin 512 := ⟨64 * b.val + t.val, by omega⟩

/-- A sum over the selected rows is the sum over the batch's. -/
theorem sum_sel (b : Fin 8) (f : Fin 512 → EReal) : ∑ n, (if n.val / 64 = b.val then 1 else 0) * f n = ∑ t, f (rowOf b t) := by
  simp only [ite_mul, one_mul, zero_mul]
  rw [← Finset.sum_filter]
  refine (Finset.sum_nbij (rowOf b) (fun t _ => ?_) (fun t _ t' _ h => ?_) (fun n hn => ?_) fun _ _ => rfl).symm
  · refine Finset.mem_filter.mpr ⟨Finset.mem_univ _, ?_⟩
    show (64 * b.val + t.val) / 64 = b.val
    omega
  · have := congrArg Fin.val h
    dsimp only [rowOf] at this
    exact Fin.ext (by omega)
  · have h := (Finset.mem_filter.mp hn).2
    exact ⟨⟨n.val % 64, by omega⟩, Finset.mem_coe.mpr (Finset.mem_univ _), Fin.ext (by show 64 * b.val + n.val % 64 = n.val; omega)⟩

/-- A codebook's addition to the running sum. -/
theorem addSq_at (cm : FVec Ideal S8x8 .f32) (z q : FVec Ideal S512x8 .f32) (i : Fin 6) (r : Fin 512 → Fin 8192 → EReal)
    (hz : ∀ n k, z (ix2 n k) = Rows.zn P i (r n) k) (hq : ∀ n k, q (ix2 n k) = Rows.qn P i (r n) k) (b k : Fin 8) :
    addSq cm z q (ix2 b k) = cm (ix2 b k) + ∑ t, Rows.sq P i (r (rowOf b t)) k := by
  unfold addSq
  pointwise
  simp only [hz, hq, sel_at]
  rw [sum_sel b fun n => (Rows.zn P i (r n) k - Rows.qn P i (r n) k) * (Rows.zn P i (r n) k - Rows.qn P i (r n) k)]
  rfl

/-- The loss of a batch. -/
theorem loss_at (cm : FVec Ideal S8x8 .f32) (b : Fin 8) : loss cm (ix2 b 0) = (∑ k, cm (ix2 b k)) * Ideal.ofBits .f32 0x3B000000#32 := by
  unfold loss k0_pay2
  pointwise

/-! ## The stores read back -/

/-- What a list of stores leaves at row `n`, column `d`. -/
def At {e : EltTy} (l : List (View.Piece (Elt Ideal) S512x8192 e)) (n : Fin 512) (d : Fin 8192) : Elt Ideal e := View.canon l (ix2 n d)

/-- A chunk's place. -/
theorem emb_rc (k : Fin 4) (n : Fin 512) (d : Fin 2048) : (rc k).emb (ix2 n d) = ix2 n (col k d) := by
  funext a
  apply Fin.ext
  match a with
  | ⟨0, _⟩ => show 0 + 1 * n.val = n.val; omega
  | ⟨1, _⟩ => show 2048 * k.val + 1 * d.val = 2048 * k.val + d.val; omega

/-- Which columns a chunk holds. -/
theorem mem_rc (k : Fin 4) (n : Fin 512) (d : Fin 8192) : (ix2 n d : S512x8192.Idx) ∈ (rc k).set → d.val / 2048 = k.val := by
  intro h
  rw [rc, Rect.mem_set_unit] at h
  have := h 1
  have h1 : 2048 * k.val ≤ d.val := this.1
  have h2 : d.val < 2048 * k.val + 2048 := this.2
  omega

/-- A store of `x` into chunk `k`. -/
def piece {e : EltTy} (k : Fin 4) (x : S512x2048.Idx → Elt Ideal e) : View.Piece (Elt Ideal) S512x8192 e := ⟨rc k, x⟩

/-- A store into a chunk, read at a column: the chunk's own, or what was there. -/
theorem at_cons {e : EltTy} (k : Fin 4) (x : S512x2048.Idx → Elt Ideal e) (l : List (View.Piece (Elt Ideal) S512x8192 e)) (n : Fin 512) (d : Fin 8192) :
    At (piece k x :: l) n d = if d.val / 2048 = k.val then x (ix2 n ⟨d.val % 2048, by omega⟩) else At l n d := by
  unfold At piece
  split
  · rename_i h
    have e : (ix2 n d : S512x8192.Idx) = (rc k).emb (ix2 n ⟨d.val % 2048, by omega⟩) := by
      rw [emb_rc]; congr 1; exact Fin.ext (by show d.val = 2048 * k.val + d.val % 2048; omega)
    rw [e]
    exact View.canon_cons_emb (rc k) x l _
  · rename_i h
    exact View.canon_cons_of_not_mem ⟨rc k, x⟩ l fun h' => h (mem_rc k n d h')

variable {κ7 κ9 : Kind} {p7 p9 : Space} {sg7 sg9 : RefSig} (v7 : View sg7 κ7 p7 S512x8192 .f32) (v9 : View sg9 κ9 p9 S512x8192 .bf16)

/-- A chunk loaded from what the stores left. -/
def got (l : List (View.Piece (Elt Ideal) S512x8192 .f32)) (k : Fin 4) : Vec Ideal S512x2048 .f32 := v7.readCov l (rc k).toLoadRect
@[inherit_doc got] theorem got_at (l : List (View.Piece (Elt Ideal) S512x8192 .f32)) (k : Fin 4) (n : Fin 512) (d : Fin 2048) :
    got v7 l k (ix2 n d) = At l n (col k d) := by
  unfold got
  rw [View.readCov_eq_canon']
  exact congrArg (View.canon l) (emb_rc k n d)

/-- All the columns loaded from what the stores left. -/
theorem load_all (l : List (View.Piece (Elt Ideal) S512x8192 .bf16)) (n : Fin 512) (d : Fin 8192) :
    v9.readCov l rw.toLoadRect (ix2 n d) = At l n d := by
  rw [View.readCov_eq_canon']
  refine congrArg (View.canon l) (funext fun a => Fin.ext ?_)
  match a with
  | ⟨0, _⟩ => show 0 + 1 * n.val = n.val; omega
  | ⟨1, _⟩ => show 0 + 1 * d.val = d.val; omega

/-- A chunk is loaded as it is, -/
theorem chunk_at (x : Vec Ideal S512x2048 .f32) : chunk x = x := by
  unfold chunk; exact shapeCast_self _ _
/-- and the scratch block keeps it as it is. -/
theorem keep_at (x : FVec Ideal S512x2048 .f32) (n : Fin 512) (d : Fin 2048) : keep x (ix2 n d) = x (ix2 n d) := by
  unfold keep; pointwise

/-- The quotient and the rest of a column by the chunk's length name it. -/
theorem col_div (k : Fin 4) (d : Fin 8192) (h : d.val / 2048 = k.val) : col k ⟨d.val % 2048, by omega⟩ = d :=
  Fin.ext (by show 2048 * k.val + d.val % 2048 = d.val; omega)

/-- A chunk's column lies in it. -/
theorem div_col (k : Fin 4) (d : Fin 2048) : (col k d).val / 2048 = k.val := by show (2048 * k.val + d.val) / 2048 = k.val; omega

/-! ## The steps -/

/-- Four chunks stored in turn, each `r'` at its columns where the stores before it left the rest as it was, leave `r'`. -/
theorem puts (put : Fin 4 → KState Ideal → KState Ideal) (r' : Fin 512 → Fin 8192 → EReal) (s : KState Ideal) (cm : FVec Ideal S8x8 .f32)
    (h : ∀ k t, (∀ n d, d.val / 2048 = k.val → At t.out n d = At s.out n d) → ∀ n d, At (put k t).out n d = if d.val / 2048 = k.val then r' n d else At t.out n d) :
    ∀ n d, At (stepWith put cm s).out n d = r' n d := by
  intro n d
  have h0 := h 0 s fun _ _ _ => rfl
  have h1 := h 1 (put 0 s) fun n d hd => by rw [h0, if_neg (by rw [hd]; decide)]
  have h2 := h 2 (put 1 (put 0 s)) fun n d hd => by rw [h1, if_neg (by rw [hd]; decide), h0, if_neg (by rw [hd]; decide)]
  have h3 := h 3 (put 2 (put 1 (put 0 s))) fun n d hd => by
    rw [h2, if_neg (by rw [hd]; decide), h1, if_neg (by rw [hd]; decide), h0, if_neg (by rw [hd]; decide)]
  show At (put 3 (put 2 (put 1 (put 0 s)))).out n d = _
  have hd := d.isLt
  rw [h3, h2, h1, h0]
  have : d.val / 2048 = 0 ∨ d.val / 2048 = 1 ∨ d.val / 2048 = 2 ∨ d.val / 2048 = 3 := by omega
  rcases this with h | h | h | h <;> simp [h]

/-- A chunk's number as a numeral. -/
theorem four (d : Fin 8192) : d.val / 2048 = (0 : Fin 4).val ∨ d.val / 2048 = (1 : Fin 4).val ∨ d.val / 2048 = (2 : Fin 4).val ∨ d.val / 2048 = (3 : Fin 4).val := by
  show d.val / 2048 = 0 ∨ d.val / 2048 = 1 ∨ d.val / 2048 = 2 ∨ d.val / 2048 = 3
  omega

/-- Four chunks stored in turn leave each at its columns. -/
theorem at_four {e : EltTy} (x : Fin 4 → S512x2048.Idx → Elt Ideal e) (l : List (View.Piece (Elt Ideal) S512x8192 e)) (n : Fin 512) (d : Fin 8192)
    (k : Fin 4) (h : d.val / 2048 = k.val) :
    At (piece 3 (x 3) :: piece 2 (x 2) :: piece 1 (x 1) :: piece 0 (x 0) :: l) n d = x k (ix2 n ⟨d.val % 2048, by omega⟩) := by
  rw [at_cons, at_cons, at_cons, at_cons, h]
  match k with
  | 0 => rfl
  | 1 => rfl
  | 2 => rfl
  | 3 => rfl

/-- Where the scratch block was given what the output block was, chunk by chunk, it leaves the same. -/
theorem puts_scr (g : Fin 4 → KState Ideal → FVec Ideal S512x2048 .f32) (s : KState Ideal) (cm : FVec Ideal S8x8 .f32) (n : Fin 512) (d : Fin 8192) :
    At (stepWith (fun k t => put k (g k t) t) cm s).scr n d = At (stepWith (fun k t => put k (g k t) t) cm s).out n d := by
  let s1 := put 0 (g 0 s) s
  let s2 := put 1 (g 1 s1) s1
  let s3 := put 2 (g 2 s2) s2
  let x : Fin 4 → FVec Ideal S512x2048 .f32 := ![g 0 s, g 1 s1, g 2 s2, g 3 s3]
  have hk : d.val / 2048 < 4 := by omega
  have a := at_four (e := .bf16) (fun k => keep (x k)) s.scr n d ⟨d.val / 2048, hk⟩ rfl
  have b := at_four (e := .f32) x s.out n d ⟨d.val / 2048, hk⟩ rfl
  exact (a.trans (keep_at _ _ _)).trans b.symm

section Steps

variable (H : Reads L P row)
include H

/-- Codebook `i`'s unit rows and picked entries for what the scratch block holds. -/
theorem zn_at (i : Fin 6) (s : KState Ideal) (r : Fin 512 → Fin 8192 → EReal) (hs : ∀ n d, At s.scr n d = r n d) (n : Fin 512) (k : Fin 8) :
    zn L v9 i s (ix2 n k) = Rows.zn P i (r n) k :=
  unit_at i _ n (r n) (fun d => (load_all v9 s.scr n d).trans (hs n d)) k H
@[inherit_doc zn_at] theorem qn_at (i : Fin 6) (s : KState Ideal) (r : Fin 512 → Fin 8192 → EReal) (hs : ∀ n d, At s.scr n d = r n d) (n : Fin 512) (k : Fin 8) :
    qn L v9 i s (ix2 n k) = Rows.qn P i (r n) k :=
  quant_at i _ n (r n) (fun c => sims_at i _ n (r n) (fun k => zn_at v9 H i s r hs n k) c H) k H

/-- The running sum after codebook `i`. -/
theorem cm_at (i : Fin 6) (s : KState Ideal) (r : Fin 512 → Fin 8192 → EReal) (hs : ∀ n d, At s.scr n d = r n d) (b k : Fin 8) :
    addSq s.cm (zn L v9 i s) (qn L v9 i s) (ix2 b k) = s.cm (ix2 b k) + ∑ t, Rows.sq P i (r (rowOf b t)) k :=
  addSq_at _ _ _ i r (fun n k => zn_at v9 H i s r hs n k) (fun n k => qn_at v9 H i s r hs n k) b k

/-- The scratch block starts as the input. -/
theorem start_scr (n : Fin 512) (d : Fin 8192) : At (start L).scr n d = row n d := by
  have hk : d.val / 2048 < 4 := by omega
  have a := at_four (e := .bf16) (fun k => keep (chunk (L.z k))) [] n d ⟨d.val / 2048, hk⟩ rfl
  refine a.trans ?_
  rw [keep_at, chunk_at, H.z, col_div _ _ rfl]

/-- The first step leaves what is left after the first codebook, -/
theorem step0_at (s : KState Ideal) (hs : ∀ n d, At s.scr n d = row n d) (n : Fin 512) (d : Fin 8192) :
    At (step0 L v9 s).out n d = Rows.next P 0 (row n) d := by
  refine puts (put0 L 0 (qn L v9 0 s)) (fun n => Rows.next P 0 (row n)) s _ (fun k t _ n d => ?_) n d
  have e : (put0 L 0 (qn L v9 0 s) k t).out = piece k (subf (chunk (L.z k)) (recon (qn L v9 0 s) (L.w2 0 k) (L.v2 0 k))) :: t.out := rfl
  rw [e, at_cons]
  refine if_ctx_congr Iff.rfl (fun h => ?_) fun _ => rfl
  rw [subf_apply, Ideal.subf_def, chunk_at, H.z, recon_at 0 _ n (row n) (fun k => qn_at v9 H 0 s row hs n k) k _ H, col_div k d h]
  rfl
/-- each of the next four what is left after its own, -/
theorem stepMid_at (i : Fin 6) (s : KState Ideal) (r : Fin 512 → Fin 8192 → EReal) (hs : ∀ n d, At s.scr n d = r n d) (ho : ∀ n d, At s.out n d = r n d)
    (n : Fin 512) (d : Fin 8192) : At (stepMid L v7 v9 i s).out n d = Rows.next P i (r n) d := by
  refine puts (putMid L v7 i (qn L v9 i s)) (fun n => Rows.next P i (r n)) s _ (fun k t ht n d => ?_) n d
  have e : (putMid L v7 i (qn L v9 i s) k t).out
      = piece k (subf (chunk (got v7 t.out k)) (recon (qn L v9 i s) (L.w2 i k) (L.v2 i k))) :: t.out := rfl
  rw [e, at_cons]
  refine if_ctx_congr Iff.rfl (fun h => ?_) fun _ => rfl
  rw [subf_apply, Ideal.subf_def, chunk_at, got_at, ht _ _ (div_col k _), ho,
    recon_at i _ n (r n) (fun k => qn_at v9 H i s r hs n k) k _ H, col_div k d h]
  rfl
/-- and the last the sum of what was taken and its own. -/
theorem stepEnd_at (i : Fin 6) (s : KState Ideal) (r : Fin 512 → Fin 8192 → EReal) (hs : ∀ n d, At s.scr n d = r n d) (ho : ∀ n d, At s.out n d = r n d)
    (n : Fin 512) (d : Fin 8192) : At (stepEnd L v7 v9 i s).out n d = row n d - r n d + Rows.zq P i (r n) d := by
  refine puts (putEnd L v7 i (qn L v9 i s)) (fun n d => row n d - r n d + Rows.zq P i (r n) d) s _ (fun k t ht n d => ?_) n d
  have e : (putEnd L v7 i (qn L v9 i s) k t).out
      = piece k (addf (subf (chunk (L.z k)) (chunk (got v7 t.out k))) (recon (qn L v9 i s) (L.w2 i k) (L.v2 i k))) :: t.out := rfl
  rw [e, at_cons]
  refine if_ctx_congr Iff.rfl (fun h => ?_) fun _ => rfl
  rw [addf_apply, Ideal.addf_def, subf_apply, Ideal.subf_def, chunk_at, chunk_at, got_at, ht _ _ (div_col k _), ho, H.z,
    recon_at i _ n (r n) (fun k => qn_at v9 H i s r hs n k) k _ H, col_div k d h]

/-- A state after `j` codebooks: both blocks hold what is left, and the running sum is the square differences so far. -/
structure Inv (P : Rows.Par) (row : Fin 512 → Fin 8192 → EReal) (j : ℕ) (acc : Fin 8 → Fin 8 → EReal) (s : KState Ideal) : Prop where
  out n d : At s.out n d = Rows.left P (row n) j d
  scr n d : At s.scr n d = Rows.left P (row n) j d
  cm b k : s.cm (ix2 b k) = acc b k

/-- A batch's square differences in codebook `i`, summed over its rows, column by column. -/
def sqs (P : Rows.Par) (row : Fin 512 → Fin 8192 → EReal) (i : Fin 6) (b k : Fin 8) : EReal :=
  ∑ t, Rows.sq P i (Rows.left P (row (rowOf b t)) i.val) k

/-- The first step gets there, -/
theorem inv0 : Inv P row 1 (fun b k => 0 + sqs P row 0 b k) (step0 L v9 (start L)) := by
  have ho := step0_at v9 H (start L) (start_scr H)
  refine ⟨ho, fun n d => (puts_scr (fun k t => _) _ _ n d).trans (ho n d), fun b k => ?_⟩
  refine (cm_at v9 H 0 (start L) row (start_scr H) b k).trans ?_
  congr 1
  exact Ideal.ofBits_zero_f32

/-- and each of the next four keeps it. -/
theorem invMid (i : Fin 6) (acc) (s : KState Ideal) (h : Inv P row i.val acc s) :
    Inv P row (i.val + 1) (fun b k => acc b k + sqs P row i b k) (stepMid L v7 v9 i s) := by
  have hi : Fin.ofNat 6 i.val = i := Fin.ofNat_val_eq_self i
  have ho : ∀ n d, At (stepMid L v7 v9 i s).out n d = Rows.left P (row n) (i.val + 1) d := fun n d => by
    rw [stepMid_at v7 v9 H i s (fun n => Rows.left P (row n) i.val) h.scr h.out n d]
    show _ = Rows.next P (Fin.ofNat 6 i.val) _ d
    rw [hi]
  refine ⟨ho, fun n d => (puts_scr (fun k t => _) _ _ n d).trans (ho n d), fun b k => ?_⟩
  refine (cm_at v9 H i s (fun n => Rows.left P (row n) i.val) h.scr b k).trans ?_
  rw [h.cm]; rfl

/-- All six: the output block's rows, -/
theorem all_out (n : Fin 512) (d : Fin 8192) :
    At (all L v7 v9).out n d = row n d - Rows.left P (row n) 5 d + Rows.zq P 5 (Rows.left P (row n) 5) d := by
  have h := invMid v7 v9 H 4 _ _ (invMid v7 v9 H 3 _ _ (invMid v7 v9 H 2 _ _ (invMid v7 v9 H 1 _ _ (inv0 v9 H))))
  exact stepEnd_at v7 v9 H 5 _ (fun n => Rows.left P (row n) 5) h.scr h.out n d

/-- and the running sum. -/
theorem all_cm (b k : Fin 8) : (all L v7 v9).cm (ix2 b k) = 0 + sqs P row 0 b k + sqs P row 1 b k + sqs P row 2 b k + sqs P row 3 b k
    + sqs P row 4 b k + sqs P row 5 b k := by
  have h := invMid v7 v9 H 4 _ _ (invMid v7 v9 H 3 _ _ (invMid v7 v9 H 2 _ _ (invMid v7 v9 H 1 _ _ (inv0 v9 H))))
  refine (cm_at v9 H 5 _ (fun n => Rows.left P (row n) 5) h.scr b k).trans ?_
  rw [h.cm]; rfl

end Steps

end Cert.KerAll

end
-- ==== Proof.KerOut.lean ====
/-
  The kernel's two result arrays at the end of its region, and its three results.
-/
module

public import proofs.«01_k».proof.Proof.KerHost
public import proofs.«01_k».proof.Proof.KerWords
public import proofs.«01_k».proof.Proof.KerAll

@[expose] public section

set_option maxRecDepth 16384

noncomputable section

namespace Cert.KerOut

open Cert.KernelIdeal Cert.KernelIdeal.Gen Idealize.ShloMosaic Idealize.ShloMosaic.TcCoe Idealize.SL.Sem
open Cert.KerStep Cert.KerAt Cert.KerHost
open Idealize.ShloMosaic.Pipeline (Dat)

variable (m : (ℓ : Loc nD τ sig) → Buf (Elt Ideal) ℓ) (c : Dev nD) (t : Fin cfg0.N)

/-- The rows the kernel reads. -/
def row (n : Fin 512) (d : Fin 8192) : EReal := rows (F := Ideal) (mem m c main_arg0) (ix2 n d)

/-! ## The body's loads -/

/-- The body's loads at a point. -/
def ld : Loads Ideal := loads (ms0_0 t) (hs0_0 t) (ms0_1 t) (hs0_1 t) (ms0_2 t) (hs0_2 t) (ms0_3 t) (hs0_3 t) (ms0_4 t) (hs0_4 t) (ms0_5 t) (hs0_5 t)
  (ms0_6 t) (hs0_6 t) (iblk m c 0 t) (iblk m c 1 t) (iblk m c 2 t) (iblk m c 3 t) (iblk m c 4 t) (iblk m c 5 t) (iblk m c 6 t)

section Slabs
variable {S : Shape} {e : EltTy}

/-- A load of a block's slab reads the block at the slab's index. -/
theorem slab (a : Memref sig .tc .vmem S e) (h : a.IsWhole) (x : Vec Ideal S e) (r : Rect S) (j : r.toLoadRect.shape.Idx) :
    View.readAt (Elt Ideal) a.view r.toLoadRect (h.unread x) j = x (r.toLoadRect.idx j) := by
  rw [View.readAt_eq_ld, h.read_unread]

end Slabs

/-- They are the rows, the parameters and the unit entries. -/
theorem reads : Reads (ld m c t) (par m c) (row m c) where
  z k n d := (slab (ms0_0 t) (hs0_0 t) _ (rc k) (ix2 n d)).trans (by
    rw [blk_z, V_z]
    refine congrArg (rows (F := Ideal) (mem m c main_arg0)) (funext fun a => Fin.ext ?_)
    match a with
    | ⟨0, _⟩ => show 0 + 1 * n.val = n.val; omega
    | ⟨1, _⟩ => show 2048 * k.val + 1 * d.val = 2048 * k.val + d.val; omega)
  w1 i d k := (slab (ms0_1 t) (hs0_1 t) _ (r1 i) (ix3 0 d k)).trans ((congrArg (iblk m c 1 t : Vec Ideal S6x8192x8 .bf16) (funext fun a => Fin.ext (by
    match a with
    | ⟨0, _⟩ => show i.val + 1 * 0 = i.val; omega
    | ⟨1, _⟩ => show 0 + 1 * d.val = d.val; omega
    | ⟨2, _⟩ => show 0 + 1 * k.val = k.val; omega))).trans (w1_at m c t i d k))
  v1 i k := (slab (ms0_2 t) (hs0_2 t) _ (r2 i) (ix3 0 0 k)).trans ((congrArg (iblk m c 2 t : Vec Ideal S6x1x8 .f32) (funext fun a => Fin.ext (by
    match a with
    | ⟨0, _⟩ => show i.val + 1 * 0 = i.val; omega
    | ⟨1, _⟩ => rfl
    | ⟨2, _⟩ => show 0 + 1 * k.val = k.val; omega))).trans (v1_at m c t i k))
  cn i j k := (slab (ms0_3 t) (hs0_3 t) _ (r3 i) (ix3 0 j k)).trans ((congrArg (iblk m c 3 t : Vec Ideal S6x1024x8 .bf16) (funext fun a => Fin.ext (by
    match a with
    | ⟨0, _⟩ => show i.val + 1 * 0 = i.val; omega
    | ⟨1, _⟩ => show 0 + 1 * j.val = j.val; omega
    | ⟨2, _⟩ => show 0 + 1 * k.val = k.val; omega))).trans (cn_at m c t i j k))
  ct i j k := (slab (ms0_4 t) (hs0_4 t) _ (r4 i) (ix3 0 k j)).trans ((congrArg (iblk m c 4 t : Vec Ideal S6x8x1024 .bf16) (funext fun a => Fin.ext (by
    match a with
    | ⟨0, _⟩ => show i.val + 1 * 0 = i.val; omega
    | ⟨1, _⟩ => show 0 + 1 * k.val = k.val; omega
    | ⟨2, _⟩ => show 0 + 1 * j.val = j.val; omega))).trans (ct_at m c t i k j))
  w2 i k j d := (slab (ms0_5 t) (hs0_5 t) _ (r5 i k) (ix3 0 j d)).trans ((congrArg (iblk m c 5 t : Vec Ideal S6x8x8192 .bf16) (funext fun a => Fin.ext (by
    match a with
    | ⟨0, _⟩ => show i.val + 1 * 0 = i.val; omega
    | ⟨1, _⟩ => show 0 + 1 * j.val = j.val; omega
    | ⟨2, _⟩ => show 2048 * k.val + 1 * d.val = 2048 * k.val + d.val; omega))).trans (w2_at m c t i j (col k d)))
  v2 i k d := (slab (ms0_6 t) (hs0_6 t) _ (r6 i k) (ix3 0 0 d)).trans ((congrArg (iblk m c 6 t : Vec Ideal S6x1x8192 .f32) (funext fun a => Fin.ext (by
    match a with
    | ⟨0, _⟩ => show i.val + 1 * 0 = i.val; omega
    | ⟨1, _⟩ => rfl
    | ⟨2, _⟩ => show 2048 * k.val + 1 * d.val = 2048 * k.val + d.val; omega))).trans (v2_at m c t i (col k d)))

/-! ## What the body leaves -/

/-- The last residual taken from each row, and the last reconstruction added. -/
def outK : FVec Ideal S512x8192 .f32 := fun y =>
  row m c (y 0) (y 1) - Rows.left (par m c) (row m c (y 0)) 5 (y 1) + Rows.zq (par m c) 5 (Rows.left (par m c) (row m c (y 0)) 5) (y 1)

/-- Each batch's loss. -/
def lossK : FVec Ideal S8x1 .f32 := fun y =>
  (∑ k, (0 + KerAll.sqs (par m c) (row m c) 0 (y 0) k + KerAll.sqs (par m c) (row m c) 1 (y 0) k + KerAll.sqs (par m c) (row m c) 2 (y 0) k
    + KerAll.sqs (par m c) (row m c) 3 (y 0) k + KerAll.sqs (par m c) (row m c) 4 (y 0) k + KerAll.sqs (par m c) (row m c) 5 (y 0) k))
    * Ideal.ofBits .f32 0x3B000000#32

theorem hz : (![0, 0] : Fin 2 → Nat) = fun _ => 0 := funext fun a => by fin_cases a <;> rfl

theorem out7 : (outsAt0 m c t).1 = outK m c := by
  unfold outsAt0
  dsimp only
  unfold out0_A_7
  rw [View.read_writes_eq_canon _ _ _ (cover0_A_7 c _ _ _ _ _ _ _ _ _ _ _ _ _ _ _ _ _ _ _ _ _ _ _ _ _ _ _), KerWords.run_out]
  funext y
  obtain ⟨n, d, rfl⟩ : ∃ (n : Fin 512) (d : Fin 8192), y = ix2 n d := ⟨y 0, y 1, by funext a; match a with | ⟨0, _⟩ => rfl | ⟨1, _⟩ => rfl⟩
  exact KerAll.all_out _ _ (reads m c t) n d

theorem out8 : (outsAt0 m c t).2 = lossK m c := by
  unfold outsAt0
  dsimp only
  unfold out0_A_8
  rw [View.read_writes_eq_canon _ _ _ (cover0_A_8 c _ _ _ _ _ _ _ _ _ _ _ _ _ _ _ _ _ _ _ _ _ _ _ _ _ _ _), KerWords.run_cm,
    View.canon_unit_zero hz]
  funext y
  obtain ⟨b, rfl⟩ : ∃ b : Fin 8, y = ix2 b 0 := ⟨y 0, by
    funext a
    match a with
    | ⟨0, _⟩ => rfl
    | ⟨1, _⟩ => exact Subsingleton.elim (α := Fin 1) _ _⟩
  rw [KerAll.loss_at]
  unfold lossK
  refine congrArg (· * _) (Finset.sum_congr rfl fun k _ => ?_)
  exact KerAll.all_cm _ _ (reads m c t) b k

/-! ## The result arrays -/

theorem flushed7 (hf : (cfg0.win 7).flush t = true) : (dats m 0 c).flushed 7 t = ((cfg0.win 7).blk t).view.read (Elt Ideal) (outK m c) := by
  show (cfg0.win 7).cut (grid0.coords t) ((dats m 0 c).after 7 t) = _
  rw [after0_7, out7]
  exact (Memref.read_access_unit_zero (Elt Ideal) main_v16_0 (funext fun a => Nat.zero_mul _) (fun a => by simp) (outK m c)).symm

theorem flushed8 (hf : (cfg0.win 8).flush t = true) : (dats m 0 c).flushed 8 t = ((cfg0.win 8).blk t).view.read (Elt Ideal) (lossK m c) := by
  show (cfg0.win 8).cut (grid0.coords t) ((dats m 0 c).after 8 t) = _
  rw [after0_8, out8]
  exact (Memref.read_access_unit_zero (Elt Ideal) main_v16_1 (funext fun a => Nat.zero_mul _) (fun a => by simp) (lossK m c)).symm

/-- The region's one point. -/
def pt : Fin cfg0.N := ⟨0, by decide⟩

theorem final7 : (dats m 0 c).arrAt 7 cfg0.N = outK m c :=
  (dats m 0 c).arrAt_eq_of_cover 7 (outK m c) (flushed7 m c) fun i =>
    ⟨pt, flush0_7 pt, by
      show i ∈ ((View.whole main_v16_0).slice (win0_7.rect pt)).set
      rw [View.set_slice_whole, Rect.mem_set_unit]
      intro a
      have h0 : (i 0 : Nat) < 512 := (i 0).isLt
      have h1 : (i 1 : Nat) < 8192 := (i 1).isLt
      match a with
      | ⟨0, _⟩ => show 0 * 512 ≤ (i 0 : Nat) ∧ (i 0 : Nat) < 0 * 512 + 512; omega
      | ⟨1, _⟩ => show 0 * 8192 ≤ (i 1 : Nat) ∧ (i 1 : Nat) < 0 * 8192 + 8192; omega⟩

theorem final8 : (dats m 0 c).arrAt 8 cfg0.N = lossK m c :=
  (dats m 0 c).arrAt_eq_of_cover 8 (lossK m c) (flushed8 m c) fun i =>
    ⟨pt, flush0_8 pt, by
      show i ∈ ((View.whole main_v16_1).slice (win0_8.rect pt)).set
      rw [View.set_slice_whole, Rect.mem_set_unit]
      intro a
      have h0 : (i 0 : Nat) < 8 := (i 0).isLt
      have h1 : (i 1 : Nat) < 1 := (i 1).isLt
      match a with
      | ⟨0, _⟩ => show 0 * 8 ≤ (i 0 : Nat) ∧ (i 0 : Nat) < 0 * 8 + 8; omega
      | ⟨1, _⟩ => show 0 * 1 ≤ (i 1 : Nat) ∧ (i 1 : Nat) < 0 * 1 + 1; omega⟩

/-! ## The results -/

/-- The first result. -/
def res0 : FVec Ideal S8x4096x128 .f32 :=
  shapeCast S8x4096x128 (transpose S8x16x256x128 [0, 3, 1, 2] (shapeCast S8x256x128x16 (outK m c) shapeCasts_S512x8192_S8x256x128x16)
    transposes_S8x256x128x16_S8x16x256x128_0_3_1_2) shapeCasts_S8x16x256x128_S8x4096x128

/-- The second result, which is the third. -/
def res1 : FVec Ideal S8 .f32 := shapeCast S8 (lossK m c) shapeCasts_S8x1_S8

/-- The arrays of different windows are different. -/
theorem arr_inj : Function.Injective (Pipeline.arrRef spec0) := by decide

theorem tail_v20 : Pipeline.afterTail₀ cfgs (dats m) 0 (V0 m) [hostOps1] c main_v20 = res0 m c := by
  unfold Pipeline.afterTail₀
  show StableHlo.after hostOps1 _ _ = _
  after_results
  have h := Pipeline.withArrays_arr spec0 arr_inj c (V0 m c) (fun w => (dats m 0 c).arrAt w cfg0.N) 7
  rw [final7] at h
  unfold res0
  rw [← h]
  rfl

theorem tail_v17 : Pipeline.afterTail₀ cfgs (dats m) 0 (V0 m) [hostOps1] c main_v17 = res1 m c := by
  unfold Pipeline.afterTail₀
  show StableHlo.after hostOps1 _ _ = _
  after_results
  have h := Pipeline.withArrays_arr spec0 arr_inj c (V0 m c) (fun w => (dats m 0 c).arrAt w cfg0.N) 8
  rw [final8] at h
  unfold res1
  rw [← h]
  rfl

/-- The launch: the results, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v20) = res0 m c
      ∧ r.2.mem ((c.tc : Thread nD τ).loc main_v17) = res1 m c :=
  (θ_run defs _ _).mono (fun _ h c => ⟨((h c).2 main_v20 (by decide)).trans (tail_v20 m c), ((h c).2 main_v17 (by decide)).trans (tail_v17 m c)⟩)
    (run_main m ρ)

end Cert.KerOut

end
-- ==== Proof.RefOps.lean ====
/-
  The reference program as a list of host operations. Its main function runs ten operations that lay the activations out
  as 64 rows of 8192 numbers per batch and make three zero arrays, then the same 88 operations once per codebook, then four
  that lay the sum of the six reconstructions back out. The buffer of an operation's result is numbered by the operation's
  place in the program (the six arguments come first), so codebook `i` uses buffers `16 + 88 i` to `103 + 88 i`, and one
  parametric list serves all six codebooks.
-/
module

public import proofs.«01_k».proof.Proof.Gen.ReferenceIdeal
public import Idealize.ShloMosaic.Lib.StableHlo.Run

@[expose] public section

noncomputable section

namespace Cert.RefOps

open Cert.ReferenceIdeal Cert.ReferenceIdeal.Gen Idealize.ShloMosaic Idealize.ShloMosaic.StableHlo Idealize.SL.Sem

variable {F : FTy → Type} [FloatOps F]

/-- Buffer number `n` as the buffer of a value of type `T`. -/
abbrev s (n : Nat) (T : BufTy) (hn : n < 548 := by decide) (hT : hbmTy n = T := by rfl) : TRef sig T :=
  ⟨⟨.hbm, ⟨n, hn⟩, rfl⟩, hT, (by decide : Space.hbm ≠ Space.host), rfl⟩

/-- The number of codebook `i`'s buffer `j` is one of the 548. -/
theorem lt_all (i : Fin 6) (j : Nat) (hj : j < 88) : 16 + 88 * i.val + j < 548 := by omega

/-- Buffer `j` of codebook `i`, of a type that is the same for all six codebooks. -/
abbrev t (i : Fin 6) (j : Nat) (T : BufTy) (hj : j < 88 := by decide)
    (hT : ∀ i : Fin 6, hbmTy (16 + 88 * i.val + j) = T := by
      intro i; match i with | 0 => rfl | 1 => rfl | 2 => rfl | 3 => rfl | 4 => rfl | 5 => rfl) : TRef sig T :=
  s (16 + 88 * i.val + j) T (lt_all i j hj) (hT i)

/-- The six arguments' buffers. -/
abbrev a0 : TRef sig ⟨S8x4096x128, .f32⟩ := s 0 _
@[inherit_doc a0] abbrev a1 : TRef sig ⟨S6x8192x8, .f32⟩ := s 1 _
@[inherit_doc a0] abbrev a2 : TRef sig ⟨S6x8, .f32⟩ := s 2 _
@[inherit_doc a0] abbrev a3 : TRef sig ⟨S6x1024x8, .f32⟩ := s 3 _
@[inherit_doc a0] abbrev a4 : TRef sig ⟨S6x8x8192, .f32⟩ := s 4 _
@[inherit_doc a0] abbrev a5 : TRef sig ⟨S6x8192, .f32⟩ := s 5 _

/-- Slab `i` of each stacked argument lies inside it. -/
theorem slice_8192x8 (i : Fin 6) : S6x8192x8.Slices ![i.val, 0, 0] S1x8192x8 := by revert i; decide
@[inherit_doc slice_8192x8] theorem slice_8 (i : Fin 6) : S6x8.Slices ![i.val, 0] S1x8 := by revert i; decide
@[inherit_doc slice_8192x8] theorem slice_1024x8 (i : Fin 6) : S6x1024x8.Slices ![i.val, 0, 0] S1x1024x8 := by revert i; decide
@[inherit_doc slice_8192x8] theorem slice_8x8192 (i : Fin 6) : S6x8x8192.Slices ![i.val, 0, 0] S1x8x8192 := by revert i; decide
@[inherit_doc slice_8192x8] theorem slice_8192 (i : Fin 6) : S6x8192.Slices ![i.val, 0] S1x8192 := by revert i; decide

/-- Codebook `i`'s buffers, each with its type. -/
abbrev b0 (i : Fin 6) : TRef sig ⟨S1x8192x8, .f32⟩ := t i 0 _
@[inherit_doc b0] abbrev b1 (i : Fin 6) : TRef sig ⟨S8192x8, .f32⟩ := t i 1 _
@[inherit_doc b0] abbrev b2 (i : Fin 6) : TRef sig ⟨S8x64x8, .f32⟩ := t i 2 _
@[inherit_doc b0] abbrev b3 (i : Fin 6) : TRef sig ⟨S1x8, .f32⟩ := t i 3 _
@[inherit_doc b0] abbrev b4 (i : Fin 6) : TRef sig ⟨S8, .f32⟩ := t i 4 _
@[inherit_doc b0] abbrev b5 (i : Fin 6) : TRef sig ⟨S1x1x8, .f32⟩ := t i 5 _
@[inherit_doc b0] abbrev b6 (i : Fin 6) : TRef sig ⟨S8x64x8, .f32⟩ := t i 6 _
@[inherit_doc b0] abbrev b7 (i : Fin 6) : TRef sig ⟨S8x64x8, .f32⟩ := t i 7 _
@[inherit_doc b0] abbrev b8 (i : Fin 6) : TRef sig ⟨S8x64x8, .f32⟩ := t i 8 _
@[inherit_doc b0] abbrev b9 (i : Fin 6) : TRef sig ⟨S_, .f32⟩ := t i 9 _
@[inherit_doc b0] abbrev b10 (i : Fin 6) : TRef sig ⟨S8x64, .f32⟩ := t i 10 _
@[inherit_doc b0] abbrev b11 (i : Fin 6) : TRef sig ⟨S8x64x1, .f32⟩ := t i 11 _
@[inherit_doc b0] abbrev b12 (i : Fin 6) : TRef sig ⟨S8x64x1, .f32⟩ := t i 12 _
@[inherit_doc b0] abbrev b13 (i : Fin 6) : TRef sig ⟨S_, .f32⟩ := t i 13 _
@[inherit_doc b0] abbrev b14 (i : Fin 6) : TRef sig ⟨S8x64x1, .f32⟩ := t i 14 _
@[inherit_doc b0] abbrev b15 (i : Fin 6) : TRef sig ⟨S8x64x1, .f32⟩ := t i 15 _
@[inherit_doc b0] abbrev b16 (i : Fin 6) : TRef sig ⟨S8x64x8, .f32⟩ := t i 16 _
@[inherit_doc b0] abbrev b17 (i : Fin 6) : TRef sig ⟨S8x64x8, .f32⟩ := t i 17 _
@[inherit_doc b0] abbrev b18 (i : Fin 6) : TRef sig ⟨S1x1024x8, .f32⟩ := t i 18 _
@[inherit_doc b0] abbrev b19 (i : Fin 6) : TRef sig ⟨S1024x8, .f32⟩ := t i 19 _
@[inherit_doc b0] abbrev b20 (i : Fin 6) : TRef sig ⟨S1024x8, .f32⟩ := t i 20 _
@[inherit_doc b0] abbrev b21 (i : Fin 6) : TRef sig ⟨S_, .f32⟩ := t i 21 _
@[inherit_doc b0] abbrev b22 (i : Fin 6) : TRef sig ⟨S1024, .f32⟩ := t i 22 _
@[inherit_doc b0] abbrev b23 (i : Fin 6) : TRef sig ⟨S1024x1, .f32⟩ := t i 23 _
@[inherit_doc b0] abbrev b24 (i : Fin 6) : TRef sig ⟨S1024x1, .f32⟩ := t i 24 _
@[inherit_doc b0] abbrev b25 (i : Fin 6) : TRef sig ⟨S_, .f32⟩ := t i 25 _
@[inherit_doc b0] abbrev b26 (i : Fin 6) : TRef sig ⟨S1024x1, .f32⟩ := t i 26 _
@[inherit_doc b0] abbrev b27 (i : Fin 6) : TRef sig ⟨S1024x1, .f32⟩ := t i 27 _
@[inherit_doc b0] abbrev b28 (i : Fin 6) : TRef sig ⟨S1024x8, .f32⟩ := t i 28 _
@[inherit_doc b0] abbrev b29 (i : Fin 6) : TRef sig ⟨S1024x8, .f32⟩ := t i 29 _
@[inherit_doc b0] abbrev b30 (i : Fin 6) : TRef sig ⟨S8x1024, .f32⟩ := t i 30 _
@[inherit_doc b0] abbrev b31 (i : Fin 6) : TRef sig ⟨S8x64x1024, .f32⟩ := t i 31 _
@[inherit_doc b0] abbrev b32 (i : Fin 6) : TRef sig ⟨S8x64x1024, .i32⟩ := t i 32 _
@[inherit_doc b0] abbrev b33 (i : Fin 6) : TRef sig ⟨S_, .f32⟩ := t i 33 _
@[inherit_doc b0] abbrev b34 (i : Fin 6) : TRef sig ⟨S_, .i32⟩ := t i 34 _
@[inherit_doc b0] abbrev b35 (i : Fin 6) : TRef sig ⟨S8x64, .f32⟩ := t i 35 _
@[inherit_doc b0] abbrev b36 (i : Fin 6) : TRef sig ⟨S8x64, .i32⟩ := t i 36 _
@[inherit_doc b0] abbrev b37 (i : Fin 6) : TRef sig ⟨S_, .i32⟩ := t i 37 _
@[inherit_doc b0] abbrev b38 (i : Fin 6) : TRef sig ⟨S8x64, .i32⟩ := t i 38 _
@[inherit_doc b0] abbrev b39 (i : Fin 6) : TRef sig ⟨S8x64, .i1⟩ := t i 39 _
@[inherit_doc b0] abbrev b40 (i : Fin 6) : TRef sig ⟨S_, .i32⟩ := t i 40 _
@[inherit_doc b0] abbrev b41 (i : Fin 6) : TRef sig ⟨S8x64, .i32⟩ := t i 41 _
@[inherit_doc b0] abbrev b42 (i : Fin 6) : TRef sig ⟨S8x64, .i32⟩ := t i 42 _
@[inherit_doc b0] abbrev b43 (i : Fin 6) : TRef sig ⟨S8x64, .i32⟩ := t i 43 _
@[inherit_doc b0] abbrev b44 (i : Fin 6) : TRef sig ⟨S8x64x1, .i32⟩ := t i 44 _
@[inherit_doc b0] abbrev b45 (i : Fin 6) : TRef sig ⟨S1, .i32⟩ := t i 45 _
@[inherit_doc b0] abbrev b46 (i : Fin 6) : TRef sig ⟨S_, .i32⟩ := t i 46 _
@[inherit_doc b0] abbrev b47 (i : Fin 6) : TRef sig ⟨S8x64x1, .i32⟩ := t i 47 _
@[inherit_doc b0] abbrev b48 (i : Fin 6) : TRef sig ⟨S8x64x1, .i1⟩ := t i 48 _
@[inherit_doc b0] abbrev b49 (i : Fin 6) : TRef sig ⟨S1x1x1, .i32⟩ := t i 49 _
@[inherit_doc b0] abbrev b50 (i : Fin 6) : TRef sig ⟨S8x64x1, .i32⟩ := t i 50 _
@[inherit_doc b0] abbrev b51 (i : Fin 6) : TRef sig ⟨S8x64x1, .i1⟩ := t i 51 _
@[inherit_doc b0] abbrev b52 (i : Fin 6) : TRef sig ⟨S8x64x1, .i1⟩ := t i 52 _
@[inherit_doc b0] abbrev b53 (i : Fin 6) : TRef sig ⟨S_, .i1⟩ := t i 53 _
@[inherit_doc b0] abbrev b54 (i : Fin 6) : TRef sig ⟨S8x64, .i1⟩ := t i 54 _
@[inherit_doc b0] abbrev b55 (i : Fin 6) : TRef sig ⟨S8x64x8, .f32⟩ := t i 55 _
@[inherit_doc b0] abbrev b56 (i : Fin 6) : TRef sig ⟨S8x64x8, .i1⟩ := t i 56 _
@[inherit_doc b0] abbrev b57 (i : Fin 6) : TRef sig ⟨S_, .f32⟩ := t i 57 _
@[inherit_doc b0] abbrev b58 (i : Fin 6) : TRef sig ⟨S8x64x8, .f32⟩ := t i 58 _
@[inherit_doc b0] abbrev b59 (i : Fin 6) : TRef sig ⟨S8x64x8, .f32⟩ := t i 59 _
@[inherit_doc b0] abbrev b60 (i : Fin 6) : TRef sig ⟨S8x64x8, .f32⟩ := t i 60 _
@[inherit_doc b0] abbrev b61 (i : Fin 6) : TRef sig ⟨S8x64x8, .f32⟩ := t i 61 _
@[inherit_doc b0] abbrev b62 (i : Fin 6) : TRef sig ⟨S_, .f32⟩ := t i 62 _
@[inherit_doc b0] abbrev b63 (i : Fin 6) : TRef sig ⟨S8, .f32⟩ := t i 63 _
@[inherit_doc b0] abbrev b64 (i : Fin 6) : TRef sig ⟨S_, .f32⟩ := t i 64 _
@[inherit_doc b0] abbrev b65 (i : Fin 6) : TRef sig ⟨S8, .f32⟩ := t i 65 _
@[inherit_doc b0] abbrev b66 (i : Fin 6) : TRef sig ⟨S8, .f32⟩ := t i 66 _
@[inherit_doc b0] abbrev b67 (i : Fin 6) : TRef sig ⟨S8x64x8, .f32⟩ := t i 67 _
@[inherit_doc b0] abbrev b68 (i : Fin 6) : TRef sig ⟨S8x64x8, .f32⟩ := t i 68 _
@[inherit_doc b0] abbrev b69 (i : Fin 6) : TRef sig ⟨S_, .f32⟩ := t i 69 _
@[inherit_doc b0] abbrev b70 (i : Fin 6) : TRef sig ⟨S8, .f32⟩ := t i 70 _
@[inherit_doc b0] abbrev b71 (i : Fin 6) : TRef sig ⟨S_, .f32⟩ := t i 71 _
@[inherit_doc b0] abbrev b72 (i : Fin 6) : TRef sig ⟨S8, .f32⟩ := t i 72 _
@[inherit_doc b0] abbrev b73 (i : Fin 6) : TRef sig ⟨S8, .f32⟩ := t i 73 _
@[inherit_doc b0] abbrev b74 (i : Fin 6) : TRef sig ⟨S8x64x8, .f32⟩ := t i 74 _
@[inherit_doc b0] abbrev b75 (i : Fin 6) : TRef sig ⟨S8x64x8, .f32⟩ := t i 75 _
@[inherit_doc b0] abbrev b76 (i : Fin 6) : TRef sig ⟨S1x8x8192, .f32⟩ := t i 76 _
@[inherit_doc b0] abbrev b77 (i : Fin 6) : TRef sig ⟨S8x8192, .f32⟩ := t i 77 _
@[inherit_doc b0] abbrev b78 (i : Fin 6) : TRef sig ⟨S8x64x8192, .f32⟩ := t i 78 _
@[inherit_doc b0] abbrev b79 (i : Fin 6) : TRef sig ⟨S1x8192, .f32⟩ := t i 79 _
@[inherit_doc b0] abbrev b80 (i : Fin 6) : TRef sig ⟨S8192, .f32⟩ := t i 80 _
@[inherit_doc b0] abbrev b81 (i : Fin 6) : TRef sig ⟨S1x1x8192, .f32⟩ := t i 81 _
@[inherit_doc b0] abbrev b82 (i : Fin 6) : TRef sig ⟨S8x64x8192, .f32⟩ := t i 82 _
@[inherit_doc b0] abbrev b83 (i : Fin 6) : TRef sig ⟨S8x64x8192, .f32⟩ := t i 83 _
@[inherit_doc b0] abbrev b84 (i : Fin 6) : TRef sig ⟨S8x64x8192, .f32⟩ := t i 84 _
@[inherit_doc b0] abbrev b85 (i : Fin 6) : TRef sig ⟨S8x64x8192, .f32⟩ := t i 85 _
@[inherit_doc b0] abbrev b86 (i : Fin 6) : TRef sig ⟨S8, .f32⟩ := t i 86 _
@[inherit_doc b0] abbrev b87 (i : Fin 6) : TRef sig ⟨S8, .f32⟩ := t i 87 _

/-- The ten operations before the first codebook. -/
def pro : List (HloOp τ sig (Elt F)) :=
  [ TRef.reshape a0 (s 6 ⟨S8x16x256x128, .f32⟩) rfl shapeCasts_S8x4096x128_S8x16x256x128,
    TRef.unary (s 6 ⟨S8x16x256x128, .f32⟩) (s 7 ⟨S8x256x128x16, .f32⟩) (transpose S8x256x128x16 [0, 2, 3, 1] · transposes_S8x16x256x128_S8x256x128x16_0_2_3_1),
    TRef.reshape (s 7 ⟨S8x256x128x16, .f32⟩) (s 8 ⟨S8x256x2048, .f32⟩) rfl shapeCasts_S8x256x128x16_S8x256x2048,
    TRef.reshape (s 8 ⟨S8x256x2048, .f32⟩) (s 9 ⟨S8x64x8192, .f32⟩) rfl shapeCasts_S8x256x2048_S8x64x8192,
    TRef.nullary (s 10 ⟨S_, .f32⟩) (constant S_ .f32 0x00000000#32),
    TRef.unary (s 10 ⟨S_, .f32⟩) (s 11 ⟨S8x64x8192, .f32⟩) (broadcastInDim S8x64x8192 ![] bcast_S_S8x64x8192),
    TRef.nullary (s 12 ⟨S_, .f32⟩) (constant S_ .f32 0x00000000#32),
    TRef.unary (s 12 ⟨S_, .f32⟩) (s 13 ⟨S8, .f32⟩) (broadcastInDim S8 ![] bcast_S_S8),
    TRef.nullary (s 14 ⟨S_, .f32⟩) (constant S_ .f32 0x00000000#32),
    TRef.unary (s 14 ⟨S_, .f32⟩) (s 15 ⟨S8, .f32⟩) (broadcastInDim S8 ![] bcast_S_S8) ]

/-- The 88 operations of codebook `i`, reading the residual in `res` and adding to the reconstruction in `acc` and to the
    two losses in `cm` and `cb`. -/
def step (i : Fin 6) (res acc : TRef sig ⟨S8x64x8192, .f32⟩) (cm cb : TRef sig ⟨S8, .f32⟩) : List (HloOp τ sig (Elt F)) :=
  [ TRef.unary a1 (b0 i) (extractStridedSlice S1x8192x8 ![i.val, 0, 0] · (slice_8192x8 i)),
    TRef.reshape (b0 i) (b1 i) rfl shapeCasts_S1x8192x8_S8192x8,
    TRef.binary res (b1 i) (b2 i) (fun l r => Host.dotGeneral dot_S8x64x8192_S8192x8_S8x64x8_2_0_01_1_n_n none l r),
    TRef.unary a2 (b3 i) (extractStridedSlice S1x8 ![i.val, 0] · (slice_8 i)),
    TRef.reshape (b3 i) (b4 i) rfl shapeCasts_S1x8_S8,
    TRef.unary (b4 i) (b5 i) (broadcastInDim S1x1x8 ![2] bcast_S8_S1x1x8_2),
    TRef.unary (b5 i) (b6 i) (broadcastInDim S8x64x8 ![0, 1, 2] bcast_S1x1x8_S8x64x8_0_1_2),
    TRef.binary (b2 i) (b6 i) (b7 i) addf,
    TRef.binary (b7 i) (b7 i) (b8 i) mulf,
    TRef.nullary (b9 i) (constant S_ .f32 0x00000000#32),
    TRef.binary (b8 i) (b9 i) (b10 i) (fun x v => Host.reduceAdd x v reducesTo_S8x64x8_S8x64_d2 h_S_),
    TRef.unary (b10 i) (b11 i) (broadcastInDim S8x64x1 ![0, 1] bcast_S8x64_S8x64x1_0_1),
    TRef.unary (b11 i) (b12 i) Host.sqrt,
    TRef.nullary (b13 i) (constant S_ .f32 0x322BCC77#32),
    TRef.unary (b13 i) (b14 i) (broadcastInDim S8x64x1 ![] bcast_S_S8x64x1),
    TRef.binary (b12 i) (b14 i) (b15 i) addf,
    TRef.unary (b15 i) (b16 i) (broadcastInDim S8x64x8 ![0, 1, 2] bcast_S8x64x1_S8x64x8_0_1_2),
    TRef.binary (b7 i) (b16 i) (b17 i) Host.divf,
    TRef.unary a3 (b18 i) (extractStridedSlice S1x1024x8 ![i.val, 0, 0] · (slice_1024x8 i)),
    TRef.reshape (b18 i) (b19 i) rfl shapeCasts_S1x1024x8_S1024x8,
    TRef.binary (b19 i) (b19 i) (b20 i) mulf,
    TRef.nullary (b21 i) (constant S_ .f32 0x00000000#32),
    TRef.binary (b20 i) (b21 i) (b22 i) (fun x v => Host.reduceAdd x v reducesTo_S1024x8_S1024_d1 h_S_),
    TRef.unary (b22 i) (b23 i) (broadcastInDim S1024x1 ![0] bcast_S1024_S1024x1_0),
    TRef.unary (b23 i) (b24 i) Host.sqrt,
    TRef.nullary (b25 i) (constant S_ .f32 0x322BCC77#32),
    TRef.unary (b25 i) (b26 i) (broadcastInDim S1024x1 ![] bcast_S_S1024x1),
    TRef.binary (b24 i) (b26 i) (b27 i) addf,
    TRef.unary (b27 i) (b28 i) (broadcastInDim S1024x8 ![0, 1] bcast_S1024x1_S1024x8_0_1),
    TRef.binary (b19 i) (b28 i) (b29 i) Host.divf,
    TRef.unary (b29 i) (b30 i) (transpose S8x1024 [1, 0] · transposes_S1024x8_S8x1024_1_0),
    TRef.binary (b17 i) (b30 i) (b31 i) (fun l r => Host.dotGeneral dot_S8x64x8_S8x1024_S8x64x1024_2_0_01_1_n_n none l r),
    TRef.nullary (b32 i) (iotaInDim S8x64x1024 32 2),
    TRef.nullary (b33 i) (constant S_ .f32 0xFF800000#32),
    TRef.nullary (b34 i) (constantI S_ 32 0#32),
    TRef.quaternary (b31 i) (b32 i) (b33 i) (b34 i) (b35 i) (fun x y u v j => (Host.argReduce reducer_argmax_f32_i32 x y u v reducesTo_S8x64x1024_S8x64_d2 h_S_ j).1),
    TRef.quaternary (b31 i) (b32 i) (b33 i) (b34 i) (b36 i) (fun x y u v j => (Host.argReduce reducer_argmax_f32_i32 x y u v reducesTo_S8x64x1024_S8x64_d2 h_S_ j).2),
    TRef.nullary (b37 i) (constantI S_ 32 0#32),
    TRef.unary (b37 i) (b38 i) (broadcastInDim S8x64 ![] bcast_S_S8x64),
    TRef.binary (b36 i) (b38 i) (b39 i) (cmpi .slt),
    TRef.nullary (b40 i) (constantI S_ 32 1024#32),
    TRef.unary (b40 i) (b41 i) (broadcastInDim S8x64 ![] bcast_S_S8x64),
    TRef.binary (b36 i) (b41 i) (b42 i) addi,
    TRef.ternary (b39 i) (b42 i) (b36 i) (b43 i) select,
    TRef.unary (b43 i) (b44 i) (broadcastInDim S8x64x1 ![0, 1] bcast_S8x64_S8x64x1_0_1),
    TRef.nullary (b45 i) (constantI S1 32 1023#32),
    TRef.nullary (b46 i) (constantI S_ 32 0#32),
    TRef.unary (b46 i) (b47 i) (broadcastInDim S8x64x1 ![] bcast_S_S8x64x1),
    TRef.binary (b44 i) (b47 i) (b48 i) (cmpi .sge),
    TRef.unary (b45 i) (b49 i) (broadcastInDim S1x1x1 ![2] bcast_S1_S1x1x1_2),
    TRef.unary (b49 i) (b50 i) (broadcastInDim S8x64x1 ![0, 1, 2] bcast_S1x1x1_S8x64x1_0_1_2),
    TRef.binary (b44 i) (b50 i) (b51 i) (cmpi .sle),
    TRef.binary (b48 i) (b51 i) (b52 i) andi,
    TRef.nullary (b53 i) (constantI S_ 1 1#1),
    TRef.binary (b52 i) (b53 i) (b54 i) (fun x v => Host.reduce IntOp.andi x v reducesTo_S8x64x1_S8x64_d2 h_S_),
    TRef.binary (b29 i) (b44 i) (b55 i) (fun x i => Host.gather gather_S1024x8_S8x64x1_S8x64x8_2_0_n_n_0_2_18 x i),
    TRef.unary (b54 i) (b56 i) (broadcastInDim S8x64x8 ![0, 1] bcast_S8x64_S8x64x8_0_1),
    TRef.nullary (b57 i) (constant S_ .f32 0x7FC00000#32),
    TRef.unary (b57 i) (b58 i) (broadcastInDim S8x64x8 ![] bcast_S_S8x64x8),
    TRef.ternary (b56 i) (b55 i) (b58 i) (b59 i) select,
    TRef.binary (b17 i) (b59 i) (b60 i) subf,
    TRef.binary (b60 i) (b60 i) (b61 i) mulf,
    TRef.nullary (b62 i) (constant S_ .f32 0x00000000#32),
    TRef.binary (b61 i) (b62 i) (b63 i) (fun x v => Host.reduceAdd x v reducesTo_S8x64x8_S8_d1_2 h_S_),
    TRef.nullary (b64 i) (constant S_ .f32 0x44000000#32),
    TRef.unary (b64 i) (b65 i) (broadcastInDim S8 ![] bcast_S_S8),
    TRef.binary (b63 i) (b65 i) (b66 i) Host.divf,
    TRef.binary (b17 i) (b59 i) (b67 i) subf,
    TRef.binary (b67 i) (b67 i) (b68 i) mulf,
    TRef.nullary (b69 i) (constant S_ .f32 0x00000000#32),
    TRef.binary (b68 i) (b69 i) (b70 i) (fun x v => Host.reduceAdd x v reducesTo_S8x64x8_S8_d1_2 h_S_),
    TRef.nullary (b71 i) (constant S_ .f32 0x44000000#32),
    TRef.unary (b71 i) (b72 i) (broadcastInDim S8 ![] bcast_S_S8),
    TRef.binary (b70 i) (b72 i) (b73 i) Host.divf,
    TRef.binary (b59 i) (b17 i) (b74 i) subf,
    TRef.binary (b17 i) (b74 i) (b75 i) addf,
    TRef.unary a4 (b76 i) (extractStridedSlice S1x8x8192 ![i.val, 0, 0] · (slice_8x8192 i)),
    TRef.reshape (b76 i) (b77 i) rfl shapeCasts_S1x8x8192_S8x8192,
    TRef.binary (b75 i) (b77 i) (b78 i) (fun l r => Host.dotGeneral dot_S8x64x8_S8x8192_S8x64x8192_2_0_01_1_n_n none l r),
    TRef.unary a5 (b79 i) (extractStridedSlice S1x8192 ![i.val, 0] · (slice_8192 i)),
    TRef.reshape (b79 i) (b80 i) rfl shapeCasts_S1x8192_S8192,
    TRef.unary (b80 i) (b81 i) (broadcastInDim S1x1x8192 ![2] bcast_S8192_S1x1x8192_2),
    TRef.unary (b81 i) (b82 i) (broadcastInDim S8x64x8192 ![0, 1, 2] bcast_S1x1x8192_S8x64x8192_0_1_2),
    TRef.binary (b78 i) (b82 i) (b83 i) addf,
    TRef.binary acc (b83 i) (b84 i) addf,
    TRef.binary res (b83 i) (b85 i) subf,
    TRef.binary cm (b66 i) (b86 i) addf,
    TRef.binary cb (b73 i) (b87 i) addf ]

/-- The four operations after the last codebook. -/
def epi : List (HloOp τ sig (Elt F)) :=
  [ TRef.reshape (s 540 ⟨S8x64x8192, .f32⟩) (s 544 ⟨S8x256x2048, .f32⟩) rfl shapeCasts_S8x64x8192_S8x256x2048,
    TRef.reshape (s 544 ⟨S8x256x2048, .f32⟩) (s 545 ⟨S8x256x128x16, .f32⟩) rfl shapeCasts_S8x256x2048_S8x256x128x16,
    TRef.unary (s 545 ⟨S8x256x128x16, .f32⟩) (s 546 ⟨S8x16x256x128, .f32⟩) (transpose S8x16x256x128 [0, 3, 1, 2] · transposes_S8x256x128x16_S8x16x256x128_0_3_1_2),
    TRef.reshape (s 546 ⟨S8x16x256x128, .f32⟩) (s 547 ⟨S8x4096x128, .f32⟩) rfl shapeCasts_S8x16x256x128_S8x4096x128 ]

/-- Codebook `i`'s operations where it continues codebook `i - 1`, whose last four buffers it reads. -/
def next (i : Fin 5) : List (HloOp τ sig (Elt F)) :=
  step i.succ (b85 i.castSucc) (b84 i.castSucc) (b86 i.castSucc) (b87 i.castSucc)

/-- The whole program's operations. -/
def ops : List (HloOp τ sig (Elt F)) :=
  pro ++ (step 0 (s 9 _) (s 11 _) (s 13 _) (s 15 _) ++ (next 0 ++ (next 1 ++ (next 2 ++ (next 3 ++ (next 4 ++ epi))))))

/-- The program's printed part 0 runs operations 1 to 94. -/
theorem part0 (c : Dev nD) : main_part0 (F := F) c = seq ((ops.drop 0).take 94) := rfl

/-- The program's printed part 1 runs operations 95 to 188. -/
theorem part1 (c : Dev nD) : main_part1 (F := F) c = seq ((ops.drop 94).take 94) := rfl

/-- The program's printed part 2 runs operations 189 to 282. -/
theorem part2 (c : Dev nD) : main_part2 (F := F) c = seq ((ops.drop 188).take 94) := rfl

/-- The program's printed part 3 runs operations 283 to 380. -/
theorem part3 (c : Dev nD) : main_part3 (F := F) c = seq ((ops.drop 282).take 98) := rfl

/-- The program's printed part 4 runs operations 381 to 478. -/
theorem part4 (c : Dev nD) : main_part4 (F := F) c = seq ((ops.drop 380).take 98) := rfl

/-- The program's printed part 5 runs operations 479 to 542. -/
theorem part5 (c : Dev nD) : main_part5 (F := F) c = seq ((ops.drop 478).take 64) := rfl

end Cert.RefOps

end
-- ==== Proof.RefRun.lean ====
/-
  The reference's run. Operation number `n` of the program writes buffer number `n` alone, from buffers of lower numbers
  (`Line`). So the contents `W` at the end satisfy every operation's equation at once: running any operation again changes
  nothing (`fixed`). The six codebooks' results are read off those equations, once for all six.
-/
module

public import proofs.«01_k».proof.Proof.RefOps

@[expose] public section

noncomputable section

namespace Cert.RefRun

open Cert.ReferenceIdeal Cert.ReferenceIdeal.Gen Cert.RefOps Idealize.ShloMosaic Idealize.ShloMosaic.TcCoe
open Idealize.ShloMosaic.StableHlo Idealize.SL.Sem

variable {F : FTy → Type} [FloatOps F]

/-! ## A line whose operations write increasing buffers -/

/-- A buffer's number. -/
abbrev num (r : Ref sig .tc) : Nat := r.idx.val

/-- Buffers of different numbers are different. -/
theorem ne_of_num {r y : Ref sig .tc} (h : num r ≠ num y) : r ≠ y := fun e => h (by rw [e])

/-- The operation writes buffer `n` alone, and its result depends on lower-numbered buffers only. -/
structure Writes (n : Nat) (op : HloOp τ sig (Elt F)) : Prop where
  at_num : ∃ y : Ref sig .tc, num y = n ∧ op.writes = {Proc.devRef .tc y} ∧ ∀ V W : Valuation τ sig (Elt F),
    (∀ r : Ref sig .tc, num r < n → V (Proc.devRef .tc r) = W (Proc.devRef .tc r)) →
      op.result V (Proc.devRef .tc y) = op.result W (Proc.devRef .tc y)
  sub : op.bufs ⊆ tcRefs τ sig
  not_fresh : op.fresh = ∅

section Builders

variable {Ta Tb Tc Td Ty : BufTy} {n : Nat}

/-- Each builder's operation writes its result's buffer, provided that its operands' numbers are lower. -/
theorem w_nullary (y : TRef sig Ty) (v : Ty.Contents (Elt F)) (hy : num y.ref = n) :
    Writes n (TRef.nullary y v) :=
  ⟨⟨y.ref, hy, rfl, fun V W _ => (nullary_result _ _ _ V).trans (nullary_result _ _ _ W).symm⟩, nullary_bufs_sub .., rfl⟩

@[inherit_doc w_nullary]
theorem w_unary (a : TRef sig Ta) (y : TRef sig Ty) (f : Ta.Contents (Elt F) → Ty.Contents (Elt F)) (ha : num a.ref < n) (hy : num y.ref = n) :
    Writes n (TRef.unary a y f) :=
  ⟨⟨y.ref, hy, rfl, fun V W h => by
    rw [unary_result, unary_result, h _ ha]⟩, unary_bufs_sub .., rfl⟩

@[inherit_doc w_nullary]
theorem w_reshape (a : TRef sig Ta) (y : TRef sig Ty) (he hn) (ha : num a.ref < n) (hy : num y.ref = n) :
    Writes n (TRef.reshape a y he hn : HloOp τ sig (Elt F)) :=
  ⟨⟨y.ref, hy, rfl, fun V W h => by
    rw [reshape_result, reshape_result, h _ ha]⟩, reshape_bufs_sub .., rfl⟩

@[inherit_doc w_nullary]
theorem w_binary (a : TRef sig Ta) (b : TRef sig Tb) (y : TRef sig Ty)
    (f : Ta.Contents (Elt F) → Tb.Contents (Elt F) → Ty.Contents (Elt F)) (ha : num a.ref < n) (hb : num b.ref < n) (hy : num y.ref = n) :
    Writes n (TRef.binary a b y f) :=
  ⟨⟨y.ref, hy, rfl, fun V W h => by
    rw [binary_result, binary_result, h _ ha, h _ hb]⟩, binary_bufs_sub .., rfl⟩

@[inherit_doc w_nullary]
theorem w_ternary (a : TRef sig Ta) (b : TRef sig Tb) (c : TRef sig Tc) (y : TRef sig Ty)
    (f : Ta.Contents (Elt F) → Tb.Contents (Elt F) → Tc.Contents (Elt F) → Ty.Contents (Elt F))
    (ha : num a.ref < n) (hb : num b.ref < n) (hc : num c.ref < n) (hy : num y.ref = n) :
    Writes n (TRef.ternary a b c y f) :=
  ⟨⟨y.ref, hy, rfl, fun V W h => by
    rw [ternary_result, ternary_result, h _ ha, h _ hb, h _ hc]⟩, ternary_bufs_sub .., rfl⟩

@[inherit_doc w_nullary]
theorem w_quaternary (a : TRef sig Ta) (b : TRef sig Tb) (c : TRef sig Tc) (d : TRef sig Td) (y : TRef sig Ty)
    (f : Ta.Contents (Elt F) → Tb.Contents (Elt F) → Tc.Contents (Elt F) → Td.Contents (Elt F) → Ty.Contents (Elt F))
    (ha : num a.ref < n) (hb : num b.ref < n) (hc : num c.ref < n) (hd : num d.ref < n) (hy : num y.ref = n) :
    Writes n (TRef.quaternary a b c d y f) :=
  ⟨⟨y.ref, hy, rfl, fun V W h => by
    rw [quaternary_result, quaternary_result, h _ ha, h _ hb, h _ hc, h _ hd]⟩, quaternary_bufs_sub .., rfl⟩

/-- What a valuation holds for a typed buffer. -/
def rd (V : Valuation τ sig (Elt F)) (x : TRef sig Ty) : Ty.Contents (Elt F) := x.ofBuf (V (Proc.devRef .tc x.ref))

/-- A valuation that an operation leaves as it is holds the operation's value at its result's buffer. -/
theorem rd_nullary {V : Valuation τ sig (Elt F)} {y : TRef sig Ty} {v : Ty.Contents (Elt F)}
    (h : (TRef.nullary y v).result V = V) : rd V y = v := by
  obtain ⟨y, rfl, hy, hy'⟩ := y
  exact (congrFun h _).symm.trans (nullary_result _ _ _ V)

@[inherit_doc rd_nullary]
theorem rd_unary {V : Valuation τ sig (Elt F)} {a : TRef sig Ta} {y : TRef sig Ty} {f : Ta.Contents (Elt F) → Ty.Contents (Elt F)}
    (h : (TRef.unary a y f).result V = V) : rd V y = f (rd V a) := by
  obtain ⟨y, rfl, hy, hy'⟩ := y
  obtain ⟨a, rfl, ha, ha'⟩ := a
  exact (congrFun h _).symm.trans (unary_result _ _ _ _ _ V)

/-- A reshape between two buffers' own types is the reshape between the types they have. -/
theorem reshape_cast {Val : EltTy → Type} {s s' : Shape} {e : EltTy} {A Y : BufTy} (hA : A = ⟨s, e⟩) (hY : Y = ⟨s', e⟩)
    (he : A.elt = Y.elt) (hn : A.shape.ShapeCasts Y.shape) (hn' : s.ShapeCasts s') (v : A.Contents Val) :
    cast (congrArg (fun U : BufTy => U.Contents Val) hY) (fun i => he ▸ shapeCast Y.shape v hn i) =
      shapeCast s' (cast (congrArg (fun U : BufTy => U.Contents Val) hA) v) hn' := by
  subst hA hY
  rfl

@[inherit_doc rd_nullary]
theorem rd_reshape {V : Valuation τ sig (Elt F)} {s s' : Shape} {e : EltTy} {a : TRef sig ⟨s, e⟩} {y : TRef sig ⟨s', e⟩} {hn}
    (h : (TRef.reshape a y rfl hn : HloOp τ sig (Elt F)).result V = V) : rd V y = shapeCast s' (rd V a) hn := by
  obtain ⟨y, hy0, hy, hy'⟩ := y
  obtain ⟨a, ha0, ha, ha'⟩ := a
  refine (congrArg _ ((congrFun h _).symm.trans (reshape_result _ _ _ _ _ _ V))).trans ?_
  exact reshape_cast ha0 hy0 _ _ _ _

@[inherit_doc rd_nullary]
theorem rd_binary {V : Valuation τ sig (Elt F)} {a : TRef sig Ta} {b : TRef sig Tb} {y : TRef sig Ty}
    {f : Ta.Contents (Elt F) → Tb.Contents (Elt F) → Ty.Contents (Elt F)}
    (h : (TRef.binary a b y f).result V = V) : rd V y = f (rd V a) (rd V b) := by
  obtain ⟨y, rfl, hy, hy'⟩ := y
  obtain ⟨a, rfl, ha, ha'⟩ := a
  obtain ⟨b, rfl, hb, hb'⟩ := b
  exact (congrFun h _).symm.trans (binary_result _ _ _ _ _ _ _ V)

@[inherit_doc rd_nullary]
theorem rd_ternary {V : Valuation τ sig (Elt F)} {a : TRef sig Ta} {b : TRef sig Tb} {c : TRef sig Tc} {y : TRef sig Ty}
    {f : Ta.Contents (Elt F) → Tb.Contents (Elt F) → Tc.Contents (Elt F) → Ty.Contents (Elt F)}
    (h : (TRef.ternary a b c y f).result V = V) : rd V y = f (rd V a) (rd V b) (rd V c) := by
  obtain ⟨y, rfl, hy, hy'⟩ := y
  obtain ⟨a, rfl, ha, ha'⟩ := a
  obtain ⟨b, rfl, hb, hb'⟩ := b
  obtain ⟨c, rfl, hc, hc'⟩ := c
  exact (congrFun h _).symm.trans (ternary_result _ _ _ _ _ _ _ _ _ V)

@[inherit_doc rd_nullary]
theorem rd_quaternary {V : Valuation τ sig (Elt F)} {a : TRef sig Ta} {b : TRef sig Tb} {c : TRef sig Tc} {d : TRef sig Td} {y : TRef sig Ty}
    {f : Ta.Contents (Elt F) → Tb.Contents (Elt F) → Tc.Contents (Elt F) → Td.Contents (Elt F) → Ty.Contents (Elt F)}
    (h : (TRef.quaternary a b c d y f).result V = V) : rd V y = f (rd V a) (rd V b) (rd V c) (rd V d) := by
  obtain ⟨y, rfl, hy, hy'⟩ := y
  obtain ⟨a, rfl, ha, ha'⟩ := a
  obtain ⟨b, rfl, hb, hb'⟩ := b
  obtain ⟨c, rfl, hc, hc'⟩ := c
  obtain ⟨d, rfl, hd, hd'⟩ := d
  exact (congrFun h _).symm.trans (quaternary_result _ _ _ _ _ _ _ _ _ _ _ V)

end Builders

/-- A line whose operations write buffers `n`, `n + 1`, …, each from lower ones. -/
def Line : Nat → List (HloOp τ sig (Elt F)) → Prop
  | _, [] => True
  | n, op :: l => Writes n op ∧ Line (n + 1) l

/-- Two such lines, the second numbered on from the first, make one. -/
theorem line_append {l' : List (HloOp τ sig (Elt F))} :
    ∀ {n : Nat} {l : List (HloOp τ sig (Elt F))}, Line n l → ∀ {k : Nat}, n + l.length = k → Line k l' → Line n (l ++ l')
  | _, [], _, _, e, h' => by subst e; exact h'
  | n, op :: l, h, k, e, h' => ⟨h.1, line_append h.2 (by rw [← e, List.length_cons]; omega) h'⟩

/-- What holds of each operation of a line. -/
theorem line_all {p : HloOp τ sig (Elt F) → Prop} (hp : ∀ n op, Writes n op → p op) :
    ∀ {n : Nat} {l : List (HloOp τ sig (Elt F))}, Line n l → ∀ op ∈ l, p op
  | _, [], _, _, ho => nomatch ho
  | n, op :: l, h, o, ho => by
    rcases List.mem_cons.mp ho with rfl | ho
    · exact hp _ _ h.1
    · exact line_all hp h.2 o ho

/-- A buffer numbered below a line keeps its contents through it. -/
theorem kept {r : Ref sig .tc} : ∀ {n : Nat} {l : List (HloOp τ sig (Elt F))}, Line n l → num r < n →
    ∀ V, after l V (Proc.devRef .tc r) = V (Proc.devRef .tc r)
  | _, [], _, _, _ => rfl
  | n, op :: l, h, hr, V => by
    obtain ⟨y, hy, hw, -⟩ := h.1.at_num
    rw [after_cons, kept h.2 (by omega), result_of_writes_ne op V y r hw (ne_of_num (by omega))]

/-- After a line, running any of its operations again changes nothing. -/
theorem fixed : ∀ {n : Nat} {l : List (HloOp τ sig (Elt F))}, Line n l → ∀ V, ∀ op ∈ l, op.result (after l V) = after l V
  | _, [], _, _, _, ho => nomatch ho
  | n, op :: l, h, V, o, ho => by
    rcases List.mem_cons.mp ho with rfl | ho
    · obtain ⟨y, hy, hw, hd⟩ := h.1.at_num
      funext b
      by_cases hb : b ∈ o.writes
      · rw [hw, Finset.mem_singleton] at hb
        subst hb
        rw [after_cons, kept h.2 (by omega)]
        refine hd _ _ fun r hr => ?_
        rw [kept h.2 (by omega), result_of_writes_ne o V y r hw (ne_of_num (by omega))]
      · exact o.result_of_not_mem _ hb
    · exact fixed h.2 _ o ho

/-! ## The program's line -/

/-- The orders between the program's buffer numbers. -/
theorem lt (i : Fin 6) (j k : Nat) (h : j < k) : 16 + 88 * i.val + j < 16 + 88 * i.val + k := by omega
@[inherit_doc lt] theorem la (i : Fin 6) (j k : Nat) (h : j < 16) : j < 16 + 88 * i.val + k := by omega
@[inherit_doc lt] theorem lc (i : Fin 6) {j : Nat} (h : j < 16 + 88 * i.val) (k : Nat) : j < 16 + 88 * i.val + k := by omega

theorem line_pro : Line 6 (pro : List (HloOp τ sig (Elt F))) :=
  ⟨w_reshape _ _ _ _ (by decide) rfl, w_unary _ _ _ (by decide) rfl, w_reshape _ _ _ _ (by decide) rfl, w_reshape _ _ _ _ (by decide) rfl,
    w_nullary _ _ rfl, w_unary _ _ _ (by decide) rfl, w_nullary _ _ rfl, w_unary _ _ _ (by decide) rfl, w_nullary _ _ rfl, w_unary _ _ _ (by decide) rfl,
    trivial⟩

theorem line_epi : Line 544 (epi : List (HloOp τ sig (Elt F))) :=
  ⟨w_reshape _ _ _ _ (by decide) rfl, w_reshape _ _ _ _ (by decide) rfl, w_unary _ _ _ (by decide) rfl, w_reshape _ _ _ _ (by decide) rfl, trivial⟩

/-- Codebook `i`'s operations write buffers `16 + 88 i`, …, if the buffers they continue from are lower. -/
theorem line_step (i : Fin 6) {res acc : TRef sig ⟨S8x64x8192, .f32⟩} {cm cb : TRef sig ⟨S8, .f32⟩}
    (hres : num res.ref < 16 + 88 * i.val) (hacc : num acc.ref < 16 + 88 * i.val)
    (hcm : num cm.ref < 16 + 88 * i.val) (hcb : num cb.ref < 16 + 88 * i.val) :
    Line (16 + 88 * i.val) (step i res acc cm cb : List (HloOp τ sig (Elt F))) :=
  ⟨w_unary _ _ _ (la i 1 0 (by decide)) rfl,
    w_reshape _ _ _ _ (lt i 0 1 (by decide)) rfl,
    w_binary _ _ _ _ (lc i hres 2) (lt i 1 2 (by decide)) rfl,
    w_unary _ _ _ (la i 2 3 (by decide)) rfl,
    w_reshape _ _ _ _ (lt i 3 4 (by decide)) rfl,
    w_unary _ _ _ (lt i 4 5 (by decide)) rfl,
    w_unary _ _ _ (lt i 5 6 (by decide)) rfl,
    w_binary _ _ _ _ (lt i 2 7 (by decide)) (lt i 6 7 (by decide)) rfl,
    w_binary _ _ _ _ (lt i 7 8 (by decide)) (lt i 7 8 (by decide)) rfl,
    w_nullary _ _ rfl,
    w_binary _ _ _ _ (lt i 8 10 (by decide)) (lt i 9 10 (by decide)) rfl,
    w_unary _ _ _ (lt i 10 11 (by decide)) rfl,
    w_unary _ _ _ (lt i 11 12 (by decide)) rfl,
    w_nullary _ _ rfl,
    w_unary _ _ _ (lt i 13 14 (by decide)) rfl,
    w_binary _ _ _ _ (lt i 12 15 (by decide)) (lt i 14 15 (by decide)) rfl,
    w_unary _ _ _ (lt i 15 16 (by decide)) rfl,
    w_binary _ _ _ _ (lt i 7 17 (by decide)) (lt i 16 17 (by decide)) rfl,
    w_unary _ _ _ (la i 3 18 (by decide)) rfl,
    w_reshape _ _ _ _ (lt i 18 19 (by decide)) rfl,
    w_binary _ _ _ _ (lt i 19 20 (by decide)) (lt i 19 20 (by decide)) rfl,
    w_nullary _ _ rfl,
    w_binary _ _ _ _ (lt i 20 22 (by decide)) (lt i 21 22 (by decide)) rfl,
    w_unary _ _ _ (lt i 22 23 (by decide)) rfl,
    w_unary _ _ _ (lt i 23 24 (by decide)) rfl,
    w_nullary _ _ rfl,
    w_unary _ _ _ (lt i 25 26 (by decide)) rfl,
    w_binary _ _ _ _ (lt i 24 27 (by decide)) (lt i 26 27 (by decide)) rfl,
    w_unary _ _ _ (lt i 27 28 (by decide)) rfl,
    w_binary _ _ _ _ (lt i 19 29 (by decide)) (lt i 28 29 (by decide)) rfl,
    w_unary _ _ _ (lt i 29 30 (by decide)) rfl,
    w_binary _ _ _ _ (lt i 17 31 (by decide)) (lt i 30 31 (by decide)) rfl,
    w_nullary _ _ rfl,
    w_nullary _ _ rfl,
    w_nullary _ _ rfl,
    w_quaternary _ _ _ _ _ _ (lt i 31 35 (by decide)) (lt i 32 35 (by decide)) (lt i 33 35 (by decide)) (lt i 34 35 (by decide)) rfl,
    w_quaternary _ _ _ _ _ _ (lt i 31 36 (by decide)) (lt i 32 36 (by decide)) (lt i 33 36 (by decide)) (lt i 34 36 (by decide)) rfl,
    w_nullary _ _ rfl,
    w_unary _ _ _ (lt i 37 38 (by decide)) rfl,
    w_binary _ _ _ _ (lt i 36 39 (by decide)) (lt i 38 39 (by decide)) rfl,
    w_nullary _ _ rfl,
    w_unary _ _ _ (lt i 40 41 (by decide)) rfl,
    w_binary _ _ _ _ (lt i 36 42 (by decide)) (lt i 41 42 (by decide)) rfl,
    w_ternary _ _ _ _ _ (lt i 39 43 (by decide)) (lt i 42 43 (by decide)) (lt i 36 43 (by decide)) rfl,
    w_unary _ _ _ (lt i 43 44 (by decide)) rfl,
    w_nullary _ _ rfl,
    w_nullary _ _ rfl,
    w_unary _ _ _ (lt i 46 47 (by decide)) rfl,
    w_binary _ _ _ _ (lt i 44 48 (by decide)) (lt i 47 48 (by decide)) rfl,
    w_unary _ _ _ (lt i 45 49 (by decide)) rfl,
    w_unary _ _ _ (lt i 49 50 (by decide)) rfl,
    w_binary _ _ _ _ (lt i 44 51 (by decide)) (lt i 50 51 (by decide)) rfl,
    w_binary _ _ _ _ (lt i 48 52 (by decide)) (lt i 51 52 (by decide)) rfl,
    w_nullary _ _ rfl,
    w_binary _ _ _ _ (lt i 52 54 (by decide)) (lt i 53 54 (by decide)) rfl,
    w_binary _ _ _ _ (lt i 29 55 (by decide)) (lt i 44 55 (by decide)) rfl,
    w_unary _ _ _ (lt i 54 56 (by decide)) rfl,
    w_nullary _ _ rfl,
    w_unary _ _ _ (lt i 57 58 (by decide)) rfl,
    w_ternary _ _ _ _ _ (lt i 56 59 (by decide)) (lt i 55 59 (by decide)) (lt i 58 59 (by decide)) rfl,
    w_binary _ _ _ _ (lt i 17 60 (by decide)) (lt i 59 60 (by decide)) rfl,
    w_binary _ _ _ _ (lt i 60 61 (by decide)) (lt i 60 61 (by decide)) rfl,
    w_nullary _ _ rfl,
    w_binary _ _ _ _ (lt i 61 63 (by decide)) (lt i 62 63 (by decide)) rfl,
    w_nullary _ _ rfl,
    w_unary _ _ _ (lt i 64 65 (by decide)) rfl,
    w_binary _ _ _ _ (lt i 63 66 (by decide)) (lt i 65 66 (by decide)) rfl,
    w_binary _ _ _ _ (lt i 17 67 (by decide)) (lt i 59 67 (by decide)) rfl,
    w_binary _ _ _ _ (lt i 67 68 (by decide)) (lt i 67 68 (by decide)) rfl,
    w_nullary _ _ rfl,
    w_binary _ _ _ _ (lt i 68 70 (by decide)) (lt i 69 70 (by decide)) rfl,
    w_nullary _ _ rfl,
    w_unary _ _ _ (lt i 71 72 (by decide)) rfl,
    w_binary _ _ _ _ (lt i 70 73 (by decide)) (lt i 72 73 (by decide)) rfl,
    w_binary _ _ _ _ (lt i 59 74 (by decide)) (lt i 17 74 (by decide)) rfl,
    w_binary _ _ _ _ (lt i 17 75 (by decide)) (lt i 74 75 (by decide)) rfl,
    w_unary _ _ _ (la i 4 76 (by decide)) rfl,
    w_reshape _ _ _ _ (lt i 76 77 (by decide)) rfl,
    w_binary _ _ _ _ (lt i 75 78 (by decide)) (lt i 77 78 (by decide)) rfl,
    w_unary _ _ _ (la i 5 79 (by decide)) rfl,
    w_reshape _ _ _ _ (lt i 79 80 (by decide)) rfl,
    w_unary _ _ _ (lt i 80 81 (by decide)) rfl,
    w_unary _ _ _ (lt i 81 82 (by decide)) rfl,
    w_binary _ _ _ _ (lt i 78 83 (by decide)) (lt i 82 83 (by decide)) rfl,
    w_binary _ _ _ _ (lc i hacc 84) (lt i 83 84 (by decide)) rfl,
    w_binary _ _ _ _ (lc i hres 85) (lt i 83 85 (by decide)) rfl,
    w_binary _ _ _ _ (lc i hcm 86) (lt i 66 86 (by decide)) rfl,
    w_binary _ _ _ _ (lc i hcb 87) (lt i 73 87 (by decide)) rfl,
    trivial⟩

/-- So do codebook `i + 1`'s, continuing from codebook `i`'s. -/
theorem line_next (i : Fin 5) : Line (104 + 88 * i.val) (next i : List (HloOp τ sig (Elt F))) := by
  have e : 104 + 88 * i.val = 16 + 88 * i.succ.val := by rw [Fin.val_succ]; omega
  have l (j : Nat) (hj : j < 88) : 16 + 88 * i.castSucc.val + j < 16 + 88 * i.succ.val := by
    rw [Fin.val_succ, Fin.val_castSucc]; omega
  rw [e]
  exact line_step i.succ (l 85 (by decide)) (l 84 (by decide)) (l 86 (by decide)) (l 87 (by decide))

theorem line_ops : Line 6 (ops : List (HloOp τ sig (Elt F))) :=
  line_append line_pro rfl (line_append (line_step 0 (by decide) (by decide) (by decide) (by decide)) rfl
    (line_append (line_next 0) rfl (line_append (line_next 1) rfl (line_append (line_next 2) rfl
      (line_append (line_next 3) rfl (line_append (line_next 4) rfl line_epi))))))

/-- The program is its operations in order. -/
theorem main_eq (c : Dev nD) : main (F := F) c = seq ops := by
  have h (n k : Nat) (l : List (HloOp τ sig (Elt F))) : (l.drop n).take k ++ l.drop (n + k) = l.drop n := by
    rw [← List.drop_drop]; exact List.take_append_drop ..
  have e : (ops : List (HloOp τ sig (Elt F))) = (ops.drop 0).take 94 ++ ((ops.drop 94).take 94 ++ ((ops.drop 188).take 94 ++
      ((ops.drop 282).take 98 ++ ((ops.drop 380).take 98 ++ (ops.drop 478).take 64)))) := by
    have h5 : (ops.drop 478).take 64 = (ops.drop 478 : List (HloOp τ sig (Elt F))) := rfl
    rw [h5, h 380 98, h 282 98, h 188 94, h 94 94, h 0 94, List.drop_zero]
  rw [e, seq_append, seq_append, seq_append, seq_append, seq_append, ← part0 c, ← part1 c, ← part2 c, ← part3 c, ← part4 c, ← part5 c]
  rfl

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of the reference ends, with every buffer at the fold of
    the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq
    (fun _ => List.forall_iff_forall_mem.mpr (line_all (fun _ _ h => h.sub) line_ops)) m ρ
    fun _ => line_all (fun _ _ h => h.not_fresh) line_ops

/-- The arguments are as they were. -/
theorem arg_kept (m : (ℓ : Loc nD τ sig) → Buf (Elt F) ℓ) (c : Dev nD) (r : Ref sig .tc) (hr : num r < 6) :
    after ops (launchContents m c) (Proc.devRef .tc r) = m ((c.tc : Thread nD τ).loc r) := kept line_ops hr _

end Cert.RefRun

end
-- ==== Proof.RefVals.lean ====
/-
  The values the reference's buffers hold at the end, as one step function iterated over the six codebooks.
-/
module

public import proofs.«01_k».proof.Proof.RefRun

@[expose] public section

noncomputable section

namespace Cert.RefVals

open Cert.ReferenceIdeal Cert.ReferenceIdeal.Gen Cert.RefOps Cert.RefRun Idealize.ShloMosaic Idealize.ShloMosaic.TcCoe
open Idealize.ShloMosaic.StableHlo Idealize.SL.Sem

variable {F : FTy → Type} [FloatOps F]

/-- Contents of a buffer of shape `s` and element type `e`. -/
local notation "Arr" => fun (s : Shape) (e : EltTy) => BufTy.Contents (Elt F) (BufTy.mk s e)

/-- Codebook `i`'s projection of the residual. -/
def proj (w1 : Arr S6x8192x8 .f32) (v1 : Arr S6x8 .f32) (i : Fin 6) (r : Arr S8x64x8192 .f32) : Arr S8x64x8 .f32 :=
  addf (Host.dotGeneral dot_S8x64x8192_S8192x8_S8x64x8_2_0_01_1_n_n none r
      (shapeCast S8192x8 (extractStridedSlice S1x8192x8 ![i.val, 0, 0] w1 (slice_8192x8 i)) shapeCasts_S1x8192x8_S8192x8))
    (broadcastInDim S8x64x8 ![0, 1, 2] bcast_S1x1x8_S8x64x8_0_1_2 (broadcastInDim S1x1x8 ![2] bcast_S8_S1x1x8_2
      (shapeCast S8 (extractStridedSlice S1x8 ![i.val, 0] v1 (slice_8 i)) shapeCasts_S1x8_S8)))

/-- Each row of eight numbers divided by its length plus a small constant. -/
def unit (z : Arr S8x64x8 .f32) : Arr S8x64x8 .f32 :=
  Host.divf z (broadcastInDim S8x64x8 ![0, 1, 2] bcast_S8x64x1_S8x64x8_0_1_2
    (addf (Host.sqrt (broadcastInDim S8x64x1 ![0, 1] bcast_S8x64_S8x64x1_0_1
        (Host.reduceAdd (mulf z z) (constant S_ .f32 0x00000000#32) reducesTo_S8x64x8_S8x64_d2 h_S_)))
      (broadcastInDim S8x64x1 ![] bcast_S_S8x64x1 (constant S_ .f32 0x322BCC77#32))))

/-- Codebook `i`. -/
def book (w : Arr S6x1024x8 .f32) (i : Fin 6) : Arr S1024x8 .f32 :=
  shapeCast S1024x8 (extractStridedSlice S1x1024x8 ![i.val, 0, 0] w (slice_1024x8 i)) shapeCasts_S1x1024x8_S1024x8

/-- A codebook with each entry divided by its length plus a small constant. -/
def unitBook (w : Arr S1024x8 .f32) : Arr S1024x8 .f32 :=
  Host.divf w (broadcastInDim S1024x8 ![0, 1] bcast_S1024x1_S1024x8_0_1
    (addf (Host.sqrt (broadcastInDim S1024x1 ![0] bcast_S1024_S1024x1_0
        (Host.reduceAdd (mulf w w) (constant S_ .f32 0x00000000#32) reducesTo_S1024x8_S1024_d1 h_S_)))
      (broadcastInDim S1024x1 ![] bcast_S_S1024x1 (constant S_ .f32 0x322BCC77#32))))

/-- Each row's products with a codebook's entries. -/
def sims (zn : Arr S8x64x8 .f32) (cn : Arr S1024x8 .f32) : Arr S8x64x1024 .f32 :=
  Host.dotGeneral dot_S8x64x8_S8x1024_S8x64x1024_2_0_01_1_n_n none zn (transpose S8x1024 [1, 0] cn transposes_S1024x8_S8x1024_1_0)

/-- Each row's first entry of the greatest product. -/
def pick (sim : Arr S8x64x1024 .f32) : Arr S8x64 .i32 := fun j =>
  (Host.argReduce reducer_argmax_f32_i32 sim (iotaInDim S8x64x1024 32 2) (constant S_ .f32 0xFF800000#32) (constantI S_ 32 0#32)
    reducesTo_S8x64x1024_S8x64_d2 h_S_ j).2

/-- A negative index counts from the end. -/
def wrap (ix : Arr S8x64 .i32) : Arr S8x64x1 .i32 :=
  broadcastInDim S8x64x1 ![0, 1] bcast_S8x64_S8x64x1_0_1
    (select (cmpi .slt ix (broadcastInDim S8x64 ![] bcast_S_S8x64 (constantI S_ 32 0#32)))
      (addi ix (broadcastInDim S8x64 ![] bcast_S_S8x64 (constantI S_ 32 1024#32))) ix)

/-- The entries at the indices, with a filler where an index is out of range. -/
def takes (cn : Arr S1024x8 .f32) (ix : Arr S8x64x1 .i32) : Arr S8x64x8 .f32 :=
  select (broadcastInDim S8x64x8 ![0, 1] bcast_S8x64_S8x64x8_0_1
      (Host.reduce IntOp.andi
        (andi (cmpi .sge ix (broadcastInDim S8x64x1 ![] bcast_S_S8x64x1 (constantI S_ 32 0#32)))
          (cmpi .sle ix (broadcastInDim S8x64x1 ![0, 1, 2] bcast_S1x1x1_S8x64x1_0_1_2
            (broadcastInDim S1x1x1 ![2] bcast_S1_S1x1x1_2 (constantI S1 32 1023#32)))))
        (constantI S_ 1 1#1) reducesTo_S8x64x1_S8x64_d2 h_S_))
    (Host.gather gather_S1024x8_S8x64x1_S8x64x8_2_0_n_n_0_2_18 cn ix)
    (broadcastInDim S8x64x8 ![] bcast_S_S8x64x8 (constant S_ .f32 0x7FC00000#32))

/-- The mean square difference of each batch. -/
def lossOf (zn q : Arr S8x64x8 .f32) : Arr S8 .f32 :=
  Host.divf (Host.reduceAdd (mulf (subf zn q) (subf zn q)) (constant S_ .f32 0x00000000#32) reducesTo_S8x64x8_S8_d1_2 h_S_)
    (broadcastInDim S8 ![] bcast_S_S8 (constant S_ .f32 0x44000000#32))

/-- Codebook `i`'s reconstruction from the entries. -/
def recon (w2 : Arr S6x8x8192 .f32) (v2 : Arr S6x8192 .f32) (i : Fin 6) (zn q : Arr S8x64x8 .f32) : Arr S8x64x8192 .f32 :=
  addf (Host.dotGeneral dot_S8x64x8_S8x8192_S8x64x8192_2_0_01_1_n_n none (addf zn (subf q zn))
      (shapeCast S8x8192 (extractStridedSlice S1x8x8192 ![i.val, 0, 0] w2 (slice_8x8192 i)) shapeCasts_S1x8x8192_S8x8192))
    (broadcastInDim S8x64x8192 ![0, 1, 2] bcast_S1x1x8192_S8x64x8192_0_1_2 (broadcastInDim S1x1x8192 ![2] bcast_S8192_S1x1x8192_2
      (shapeCast S8192 (extractStridedSlice S1x8192 ![i.val, 0] v2 (slice_8192 i)) shapeCasts_S1x8192_S8192)))

/-- The arguments but the first: both projections with their offsets, and the codebooks. -/
structure Args (F : FTy → Type) where
  w1 : BufTy.Contents (Elt F) ⟨S6x8192x8, .f32⟩
  v1 : BufTy.Contents (Elt F) ⟨S6x8, .f32⟩
  cbk : BufTy.Contents (Elt F) ⟨S6x1024x8, .f32⟩
  w2 : BufTy.Contents (Elt F) ⟨S6x8x8192, .f32⟩
  v2 : BufTy.Contents (Elt F) ⟨S6x8192, .f32⟩

/-- What one codebook hands to the next: the residual, the sum of the reconstructions and the two losses. -/
@[ext] structure St (F : FTy → Type) where
  res : BufTy.Contents (Elt F) ⟨S8x64x8192, .f32⟩
  acc : BufTy.Contents (Elt F) ⟨S8x64x8192, .f32⟩
  cm : BufTy.Contents (Elt F) ⟨S8, .f32⟩
  cb : BufTy.Contents (Elt F) ⟨S8, .f32⟩

/-- Codebook `i`'s unit rows of a residual. -/
def zn (a : Args F) (i : Fin 6) (r : Arr S8x64x8192 .f32) : Arr S8x64x8 .f32 := unit (proj a.w1 a.v1 i r)

/-- Codebook `i`'s chosen entries for a residual. -/
def quant (a : Args F) (i : Fin 6) (r : Arr S8x64x8192 .f32) : Arr S8x64x8 .f32 :=
  takes (unitBook (book a.cbk i)) (wrap (pick (sims (zn a i r) (unitBook (book a.cbk i)))))

/-- One codebook's step. -/
def stepSt (a : Args F) (i : Fin 6) (x : St F) : St F where
  res := subf x.res (recon a.w2 a.v2 i (zn a i x.res) (quant a i x.res))
  acc := addf x.acc (recon a.w2 a.v2 i (zn a i x.res) (quant a i x.res))
  cm := addf x.cm (lossOf (zn a i x.res) (quant a i x.res))
  cb := addf x.cb (lossOf (zn a i x.res) (quant a i x.res))

/-- The start: the activations laid out in rows, and zeros. -/
def st0 (z : Arr S8x4096x128 .f32) : St F where
  res := shapeCast S8x64x8192 (shapeCast S8x256x2048 (transpose S8x256x128x16 [0, 2, 3, 1]
      (shapeCast S8x16x256x128 z shapeCasts_S8x4096x128_S8x16x256x128) transposes_S8x16x256x128_S8x256x128x16_0_2_3_1)
      shapeCasts_S8x256x128x16_S8x256x2048) shapeCasts_S8x256x2048_S8x64x8192
  acc := broadcastInDim S8x64x8192 ![] bcast_S_S8x64x8192 (constant S_ .f32 0x00000000#32)
  cm := broadcastInDim S8 ![] bcast_S_S8 (constant S_ .f32 0x00000000#32)
  cb := broadcastInDim S8 ![] bcast_S_S8 (constant S_ .f32 0x00000000#32)

/-- The sum of the reconstructions laid back out. -/
def back (x : Arr S8x64x8192 .f32) : Arr S8x4096x128 .f32 :=
  shapeCast S8x4096x128 (transpose S8x16x256x128 [0, 3, 1, 2] (shapeCast S8x256x128x16 (shapeCast S8x256x2048 x
    shapeCasts_S8x64x8192_S8x256x2048) shapeCasts_S8x256x2048_S8x256x128x16) transposes_S8x256x128x16_S8x16x256x128_0_3_1_2)
    shapeCasts_S8x16x256x128_S8x4096x128

/-- The arguments a valuation holds. -/
def argsOf (V : Valuation τ sig (Elt F)) : Args F := ⟨rd V a1, rd V a2, rd V a3, rd V a4, rd V a5⟩

/-- What a valuation holds in four buffers. -/
def stOf (V : Valuation τ sig (Elt F)) (res acc : TRef sig ⟨S8x64x8192, .f32⟩) (cm cb : TRef sig ⟨S8, .f32⟩) : St F :=
  ⟨rd V res, rd V acc, rd V cm, rd V cb⟩

/-- A valuation that codebook `i`'s operations leave as it is holds one step more in their last four buffers. -/
theorem step_vals (i : Fin 6) {W : Valuation τ sig (Elt F)} {res acc : TRef sig ⟨S8x64x8192, .f32⟩} {cm cb : TRef sig ⟨S8, .f32⟩}
    (h : ∀ op ∈ step i res acc cm cb, op.result W = W) :
    stOf W (b85 i) (b84 i) (b86 i) (b87 i) = stepSt (argsOf W) i (stOf W res acc cm cb) := by
  simp only [step, List.forall_mem_cons] at h
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64, h65, h66, h67, h68, h69, h70, h71, h72, h73, h74, h75, h76, h77, h78, h79, h80, h81, h82, h83, h84, h85, h86, h87, -⟩ := h
  have e7 : rd W (b7 i) = proj (rd W a1) (rd W a2) i (rd W res) := by
    rw [rd_binary h7, rd_unary h6, rd_unary h5, rd_reshape h4, rd_unary h3, rd_binary h2, rd_reshape h1, rd_unary h0]; rfl
  have e17 : rd W (b17 i) = zn (argsOf W) i (rd W res) := by
    rw [rd_binary h17, rd_unary h16, rd_binary h15, rd_unary h14, rd_nullary h13, rd_unary h12, rd_unary h11, rd_binary h10, rd_nullary h9, rd_binary h8, e7]; rfl
  have e29 : rd W (b29 i) = unitBook (book (rd W a3) i) := by
    rw [rd_binary h29, rd_unary h28, rd_binary h27, rd_unary h26, rd_nullary h25, rd_unary h24, rd_unary h23, rd_binary h22, rd_nullary h21, rd_binary h20, rd_reshape h19, rd_unary h18]; rfl
  have e36 : rd W (b36 i) = pick (sims (rd W (b17 i)) (rd W (b29 i))) := by
    rw [rd_quaternary h36, rd_nullary h34, rd_nullary h33, rd_nullary h32, rd_binary h31, rd_unary h30]; rfl
  have e59 : rd W (b59 i) = quant (argsOf W) i (rd W res) := by
    have e : rd W (b59 i) = takes (rd W (b29 i)) (wrap (rd W (b36 i))) := by
      rw [rd_ternary h59, rd_unary h58, rd_nullary h57, rd_unary h56, rd_binary h55, rd_binary h54, rd_nullary h53, rd_binary h52, rd_binary h51, rd_unary h50, rd_unary h49, rd_binary h48, rd_unary h47, rd_nullary h46, rd_nullary h45, rd_unary h44, rd_ternary h43, rd_binary h42, rd_unary h41, rd_nullary h40, rd_binary h39, rd_unary h38, rd_nullary h37]; rfl
    rw [e, e36, e17, e29]; rfl
  have e83 : rd W (b83 i) = recon (rd W a4) (rd W a5) i (rd W (b17 i)) (rd W (b59 i)) := by
    rw [rd_binary h83, rd_unary h82, rd_unary h81, rd_reshape h80, rd_unary h79, rd_binary h78, rd_reshape h77, rd_unary h76, rd_binary h75, rd_binary h74]; rfl
  have e66 : rd W (b66 i) = lossOf (rd W (b17 i)) (rd W (b59 i)) := by
    rw [rd_binary h66, rd_unary h65, rd_nullary h64, rd_binary h63, rd_nullary h62, rd_binary h61, rd_binary h60]; rfl
  have e73 : rd W (b73 i) = lossOf (rd W (b17 i)) (rd W (b59 i)) := by
    rw [rd_binary h73, rd_unary h72, rd_nullary h71, rd_binary h70, rd_nullary h69, rd_binary h68, rd_binary h67]; rfl
  rw [e17, e59] at e83 e66 e73
  refine St.ext ?_ ?_ ?_ ?_
  · refine (rd_binary h85).trans ?_
    rw [e83]; rfl
  · refine (rd_binary h84).trans ?_
    rw [e83]; rfl
  · refine (rd_binary h86).trans ?_
    rw [e66]; rfl
  · refine (rd_binary h87).trans ?_
    rw [e73]; rfl

/-- The state after all six codebooks. -/
def stEnd (a : Args F) (z : Arr S8x4096x128 .f32) : St F :=
  stepSt a 5 (stepSt a 4 (stepSt a 3 (stepSt a 2 (stepSt a 1 (stepSt a 0 (st0 z))))))

/-- Every operation's equation holds of the contents at the end. -/
theorem end_fixed (V : Valuation τ sig (Elt F)) : ∀ op ∈ ops, op.result (after ops V) = after ops V := fixed line_ops V

/-- The end state's buffers. -/
theorem end_st (V : Valuation τ sig (Elt F)) :
    stOf (after ops V) (b85 5) (b84 5) (b86 5) (b87 5) = stEnd (argsOf (after ops V)) (rd (after ops V) a0) := by
  have h := end_fixed V
  generalize after ops V = W at h ⊢
  unfold ops at h
  simp only [List.forall_mem_append] at h
  obtain ⟨hp, h0, h1, h2, h3, h4, h5, -⟩ := h
  have s0 : stOf W (s 9 _) (s 11 _) (s 13 _) (s 15 _) = st0 (rd W a0) := by
    simp only [pro, List.forall_mem_cons] at hp
    obtain ⟨p0, p1, p2, p3, p4, p5, p6, p7, p8, p9, -⟩ := hp
    refine St.ext ?_ ?_ ?_ ?_
    · refine (rd_reshape p3).trans ?_
      rw [rd_reshape p2, rd_unary p1, rd_reshape p0]; rfl
    · refine (rd_unary p5).trans ?_
      rw [rd_nullary p4]; rfl
    · refine (rd_unary p7).trans ?_
      rw [rd_nullary p6]; rfl
    · refine (rd_unary p9).trans ?_
      rw [rd_nullary p8]; rfl
  have k0 := step_vals 0 h0
  have k1 := step_vals 1 h1
  have k2 := step_vals 2 h2
  have k3 := step_vals 3 h3
  have k4 := step_vals 4 h4
  have k5 := step_vals 5 h5
  rw [s0] at k0
  exact k5.trans (congrArg (stepSt _ 5) (k4.trans (congrArg (stepSt _ 4) (k3.trans (congrArg (stepSt _ 3)
    (k2.trans (congrArg (stepSt _ 2) (k1.trans (congrArg (stepSt _ 1) k0)))))))))

/-- The first result's buffer. -/
theorem end_out (V : Valuation τ sig (Elt F)) : rd (after ops V) (s 547 _) = back (rd (after ops V) (b84 5)) := by
  have h := end_fixed V
  generalize after ops V = W at h ⊢
  unfold ops at h
  simp only [List.forall_mem_append] at h
  obtain ⟨-, -, -, -, -, -, -, hq⟩ := h
  simp only [epi, List.forall_mem_cons] at hq
  obtain ⟨q0, q1, q2, q3, -⟩ := hq
  rw [rd_reshape q3, rd_unary q2, rd_reshape q1, rd_reshape q0]; rfl

/-- An argument's buffer is as it was. -/
theorem arg_rd (V : Valuation τ sig (Elt F)) {T : BufTy} (x : TRef sig T) (hx : num x.ref < 6) : rd (after ops V) x = rd V x :=
  congrArg x.ofBuf (kept line_ops hx V)

/-- The three results of a launch, from its arguments. -/
theorem results (m : (ℓ : Loc nD τ sig) → Buf (Elt F) ℓ) (c : Dev nD) :
    let mem (b : Ref sig .tc) := m ((c.tc : Thread nD τ).loc b)
    let a : Args F := ⟨mem main_arg1, mem main_arg2, mem main_arg3, mem main_arg4, mem main_arg5⟩
    after ops (launchContents m c) (Proc.devRef .tc main_v298) = back (stEnd a (mem main_arg0)).acc ∧
    after ops (launchContents m c) (Proc.devRef .tc main_v293) = (stEnd a (mem main_arg0)).cm ∧
    after ops (launchContents m c) (Proc.devRef .tc main_v294) = (stEnd a (mem main_arg0)).cb := by
  intro mem a
  have ha : argsOf (after ops (launchContents m c)) = a := by
    unfold argsOf
    rw [arg_rd _ a1 (by decide), arg_rd _ a2 (by decide), arg_rd _ a3 (by decide), arg_rd _ a4 (by decide), arg_rd _ a5 (by decide)]
    rfl
  have hz : rd (after ops (launchContents m c)) a0 = mem main_arg0 := arg_rd _ a0 (by decide)
  have h := end_st (launchContents m c)
  rw [ha, hz] at h
  refine ⟨?_, ?_, ?_⟩
  · have hacc : rd (after ops (launchContents m c)) (b84 5) = (stEnd a (mem main_arg0)).acc := congrArg St.acc h
    exact (end_out _).trans (congrArg back hacc)
  · exact congrArg St.cm h
  · exact congrArg St.cb h

end Cert.RefVals

end
-- ==== Proof.RefAt.lean ====
/-
  The reference's step read at an index on the extended reals: row by row it is the quantizer of `Rows`.
-/
module

public import proofs.«01_k».proof.Proof.RefVals
public import proofs.«01_k».proof.Proof.KerAt
public import Idealize.ShloMosaic.Lib.Pointwise

@[expose] public section

set_option maxRecDepth 16384

noncomputable section

namespace Cert.RefAt

open Cert.ReferenceIdeal Cert.ReferenceIdeal.Gen Cert.RefVals Idealize.ShloMosaic Idealize.ShloMosaic.StableHlo

/-! ## The first greatest product -/

/-- `q` comes before `p`: its value is greater, or it is the same and the index is not later. -/
def Before (p q : Ideal .f32 × BitVec 32) : Prop :=
  LT.lt (α := EReal) p.1 q.1 ∨ p.1 = q.1 ∧ q.2.toInt ≤ p.2.toInt

theorem Before.refl (p : Ideal .f32 × BitVec 32) : Before p p := Or.inr ⟨rfl, le_refl _⟩

theorem Before.trans {p q r : Ideal .f32 × BitVec 32} (h : Before p q) (h' : Before q r) : Before p r := by
  rcases h with h | ⟨h, e⟩ <;> rcases h' with h' | ⟨h', e'⟩
  · exact Or.inl (lt_trans h h')
  · exact Or.inl (h' ▸ h)
  · exact Or.inl (h ▸ h')
  · exact Or.inr ⟨h.trans h', e'.trans e⟩

/-- A decided proposition as a bit. -/
theorem ofBool_decide (p : Prop) [Decidable p] : BitVec.ofBool (decide p) = if p then 1#1 else 0#1 := by
  by_cases h : p <;> simp [h]

/-- The reduction's body gives one of the two pairs, before which neither is. -/
theorem reducer_at (a b : Ideal .f32 × BitVec 32) :
    (reducer_argmax_f32_i32 a b = a ∨ reducer_argmax_f32_i32 a b = b) ∧ Before a (reducer_argmax_f32_i32 a b)
      ∧ Before b (reducer_argmax_f32_i32 a b) := by
  obtain ⟨x, i⟩ := a
  obtain ⟨y, j⟩ := b
  have hx : ∀ x y : Ideal .f32, (FloatOps.cmpf .ogt x y) = if LT.lt (α := EReal) y x then 1#1 else 0#1 := by
    intro x y; simp [Ideal.cmpf_def, Ideal.cmp, ofBool_decide]
  have hn : ∀ x : Ideal .f32, (FloatOps.cmpf .une x x) = 0#1 := by intro x; simp [Ideal.cmpf_def, Ideal.cmp]
  have he : ∀ x y : Ideal .f32, (FloatOps.cmpf .oeq x y) = if x = y then 1#1 else 0#1 := by
    intro x y; simp [Ideal.cmpf_def, Ideal.cmp, ofBool_decide]
  have hs : IntOp.cmpi .slt i j = if i.toInt < j.toInt then 1#1 else 0#1 := by
    simp [IntOp.cmpi, BitVec.slt, ofBool_decide]
  unfold reducer_argmax_f32_i32 Before
  simp only [hx, hn, he, hs]
  rcases lt_trichotomy (α := EReal) x y with h | h | h
  · have h1 : ¬ LT.lt (α := EReal) y x := not_lt.mpr h.le
    have h2 : x ≠ y := h.ne
    simp [h, h1, h2, IntOp.ori, IntOp.andi, Scalar.select]
  · subst h
    by_cases hij : i.toInt < j.toInt
    · simp [hij, hij.le, IntOp.ori, IntOp.andi, Scalar.select]
    · simp [hij, not_lt.mp hij, IntOp.ori, IntOp.andi, Scalar.select]
  · have h1 : ¬ LT.lt (α := EReal) x y := not_lt.mpr h.le
    have h2 : x ≠ y := h.ne'
    simp [h, h1, h2, IntOp.ori, IntOp.andi, Scalar.select]

/-- Folded over a list it gives the start or a member, before which no other is. -/
theorem fold_at (l : List (Ideal .f32 × BitVec 32)) (a : Ideal .f32 × BitVec 32) :
    l.foldl reducer_argmax_f32_i32 a ∈ a :: l ∧ ∀ p ∈ a :: l, Before p (l.foldl reducer_argmax_f32_i32 a) := by
  induction l generalizing a with
  | nil => exact ⟨by simp, fun p hp => by rw [List.mem_singleton.mp hp]; exact Before.refl _⟩
  | cons b l ih =>
    obtain ⟨hm, hb⟩ := ih (reducer_argmax_f32_i32 a b)
    obtain ⟨he, h1, h2⟩ := reducer_at a b
    rw [List.foldl_cons]
    have h0 := hb _ List.mem_cons_self
    refine ⟨?_, fun p hp => ?_⟩
    · rcases List.mem_cons.mp hm with h | h
      · rw [h]
        rcases he with e | e <;> rw [e] <;> simp
      · exact List.mem_cons_of_mem _ (List.mem_cons_of_mem _ h)
    · rcases List.mem_cons.mp hp with h | h
      · rw [h]; exact h1.trans h0
      · rcases List.mem_cons.mp h with h | h
        · rw [h]; exact h2.trans h0
        · exact hb p (List.mem_cons_of_mem _ h)

/-- The pairs of one row. -/
theorem fiber_at (x : FVec Ideal S8x64x1024 .f32) (b : Fin 8) (n : Fin 64) (p : Ideal .f32 × BitVec 32) :
    p ∈ Host.argReduceFiber x (iotaInDim S8x64x1024 32 2) reducesTo_S8x64x1024_S8x64_d2 (ix2 b n)
      ↔ ∃ c : Fin 1024, p = (x (ix3 b n c), BitVec.ofNat 32 c.val) := by
  have hr : S8x64x1024.Reduces [2] S8x64 := by decide
  have hl : ∀ c : Fin 1024, hr.lift (ix2 b n) c = ix3 b n c := by
    intro c; funext a
    match a with
    | ⟨0, _⟩ => rfl
    | ⟨1, _⟩ => rfl
    | ⟨2, _⟩ => rfl
  unfold Host.argReduceFiber
  simp only [List.mem_map, List.mem_filter, List.mem_finRange, true_and, decide_eq_true_eq]
  constructor
  · rintro ⟨m, hm, rfl⟩
    have e := hr.lift_drop (S8x64x1024.rowMajor.symm m)
    have hm' : hr.drop (S8x64x1024.rowMajor.symm m) = ix2 b n := hm
    rw [hm'] at e
    refine ⟨(S8x64x1024.rowMajor.symm m) 2, ?_⟩
    have e' := (hl ((S8x64x1024.rowMajor.symm m) 2)).symm.trans e
    rw [e']; rfl
  · rintro ⟨c, rfl⟩
    refine ⟨S8x64x1024.rowMajor (ix3 b n c), ?_, ?_⟩
    · rw [Equiv.symm_apply_apply, ← hl c]; exact hr.drop_lift _ _
    · rw [Equiv.symm_apply_apply]; rfl

/-- The index picked in a row. -/
theorem pick_at (x : FVec Ideal S8x64x1024 .f32) (b : Fin 8) (n : Fin 64) :
    pick (F := Ideal) x (ix2 b n) = BitVec.ofNat 32 (Rows.best fun c => x (ix3 b n c)).val := by
  have hb : (constant S_ .f32 0xFF800000#32 : FVec Ideal S_ .f32) (Shape.Idx.first h_S_) = (⊥ : EReal) := by
    show Ideal.ofBits .f32 0xFF800000#32 = ⊥
    simp [Ideal.ofBits, Ideal.ieee]
  unfold pick
  rw [Ideal.argReduce_eq_reduce2, Host.reduce2_eq_foldl_fiber]
  obtain ⟨hm, hle⟩ := fold_at (Host.argReduceFiber x (iotaInDim S8x64x1024 32 2) reducesTo_S8x64x1024_S8x64_d2 (ix2 b n))
    ((constant S_ .f32 0xFF800000#32 : FVec Ideal S_ .f32) (Shape.Idx.first h_S_), constantI S_ 32 0#32 (Shape.Idx.first h_S_))
  generalize List.foldl _ _ _ = res at hm hle ⊢
  have hle' : ∀ c : Fin 1024, Before (x (ix3 b n c), BitVec.ofNat 32 c.val) res := fun c =>
    hle _ (List.mem_cons_of_mem _ ((fiber_at x b n _).mpr ⟨c, rfl⟩))
  have hval : ∀ c, LE.le (α := EReal) (x (ix3 b n c)) res.1 := fun c => by
    rcases hle' c with h | ⟨h, -⟩
    · exact le_of_lt h
    · exact le_of_eq h
  have key : ∀ c : Fin 1024, res.2 = BitVec.ofNat 32 c.val → (∀ c', LE.le (α := EReal) (x (ix3 b n c')) (x (ix3 b n c)))
      → res.1 = x (ix3 b n c) → res.2 = BitVec.ofNat 32 (Rows.best fun c => x (ix3 b n c)).val := by
    intro c h2 hx h1
    rw [← Rows.eq_best (f := fun c => x (ix3 b n c)) (c := c) hx, h2]
    intro c' hc'
    rcases hle' c' with h | ⟨-, h⟩
    · exact absurd (h1 ▸ h) (by rw [← hc']; exact lt_irrefl (α := EReal) _)
    · rw [h2, KerAt.toInt_col, KerAt.toInt_col] at h
      exact Fin.le_def.mpr (by exact_mod_cast h)
  rcases List.mem_cons.mp hm with h | h
  · have h1 : res.1 = (⊥ : EReal) := by rw [h]; exact hb
    have hx : ∀ c, x (ix3 b n c) = (⊥ : EReal) := fun c => le_bot_iff.mp (h1 ▸ hval c)
    exact key 0 (by rw [h]; rfl) (fun c' => by rw [hx, hx]) (by rw [h1, hx])
  · obtain ⟨c, hc⟩ := (fiber_at x b n _).mp h
    exact key c (by rw [hc]) (fun c' => by have := hval c'; rw [hc] at this; exact this) (by rw [hc])

/-! ## The entries picked -/

/-- The gather reads the row its index names. -/
theorem gather_at (z : FVec Ideal S1024x8 .f32) (w : IVec S8x64x1 32) (b : Fin 8) (n : Fin 64) (k : Fin 8) (c : Fin 1024)
    (h : w (ix3 b n 0) = BitVec.ofNat 32 c.val) :
    Host.gather gather_S1024x8_S8x64x1_S8x64x8_2_0_n_n_0_2_18 z w (ix3 b n k) = z (ix2 c k) := by
  unfold Host.gather
  refine congrArg z ?_
  funext a
  refine Fin.ext ?_
  show (gather_S1024x8_S8x64x1_S8x64x8_2_0_n_n_0_2_18).start (ix3 b n k) w a
    + (gather_S1024x8_S8x64x1_S8x64x8_2_0_n_n_0_2_18).batchCoord (ix3 b n k) a
    + (gather_S1024x8_S8x64x1_S8x64x8_2_0_n_n_0_2_18).offCoord (ix3 b n k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 2) ∈ (gather_S1024x8_S8x64x1_S8x64x8_2_0_n_n_0_2_18).startIndexMap from
      List.mem_singleton.mpr rfl)]
    have hsi : (gather_S1024x8_S8x64x1_S8x64x8_2_0_n_n_0_2_18).siIdx (ix3 b n k)
        ⟨List.idxOf (⟨0, by decide⟩ : Fin 2) (gather_S1024x8_S8x64x1_S8x64x8_2_0_n_n_0_2_18).startIndexMap,
          List.idxOf_lt_length_iff.2 (List.mem_singleton.mpr rfl)⟩ = ix3 b n 0 := by
      funext d; refine Fin.ext ?_
      match d with
      | ⟨0, _⟩ => rfl
      | ⟨1, _⟩ => rfl
      | ⟨2, _⟩ => rfl
    rw [hsi, h, KerAt.toInt_col]
    have := c.isLt
    show min c.val (1024 - 1) + 0 + 0 = c.val
    omega
  | ⟨1, _⟩ =>
    have hs : (gather_S1024x8_S8x64x1_S8x64x8_2_0_n_n_0_2_18).start (ix3 b n k) w (⟨1, by decide⟩ : Fin 2) = 0 := by
      unfold GatherDims.start
      exact dif_neg (fun h => absurd (List.mem_singleton.mp h) (by decide))
    rw [hs]
    show 0 + 0 + k.val = k.val
    omega

/-- The entry read at an index in range. -/
theorem takes_at (z : FVec Ideal S1024x8 .f32) (w : IVec S8x64 32) (b : Fin 8) (n : Fin 64) (k : Fin 8) (c : Fin 1024)
    (h : w (ix2 b n) = BitVec.ofNat 32 c.val) : takes (F := Ideal) z (wrap w) (ix3 b n k) = z (ix2 c k) := by
  have hc := c.isLt
  have hi := KerAt.toInt_col c
  have hw : wrap (F := Ideal) w (ix3 b n 0) = BitVec.ofNat 32 c.val := by
    unfold wrap
    pointwise
    rw [h]
    have : IntOp.cmpi .slt (BitVec.ofNat 32 c.val) 0#32 = 0#1 := by
      simp [IntOp.cmpi, BitVec.slt, hi, ofBool_decide]
    rw [this]; rfl
  have e : ∀ k' : Fin 1, wrap (F := Ideal) w (ix3 b n k') = BitVec.ofNat 32 c.val := fun k' => by
    rw [Subsingleton.elim k' 0]; exact hw
  unfold takes
  pointwise
  rw [gather_at _ _ _ _ _ c hw]
  have h1 : IntOp.andi (IntOp.cmpi .sge (BitVec.ofNat 32 c.val) 0#32) (IntOp.cmpi .sle (BitVec.ofNat 32 c.val) 1023#32) = 1#1 := by
    have g1 : IntOp.cmpi .sge (BitVec.ofNat 32 c.val) 0#32 = 1#1 := by simp [IntOp.cmpi, BitVec.sle, hi]
    have g2 : IntOp.cmpi .sle (BitVec.ofNat 32 c.val) 1023#32 = 1#1 := by
      have h : (BitVec.ofNat 32 c.val).sle 1023#32 = true := by
        rw [BitVec.sle, hi]
        exact decide_eq_true (show (c.val : ℤ) ≤ 1023 by omega)
      show BitVec.ofBool _ = _
      rw [h]; rfl
    rw [g1, g2]; rfl
  have h2 : Finset.fold IntOp.andi 1#1 (fun x : Fin 1 => IntOp.andi (IntOp.cmpi .sge (wrap (F := Ideal) w (ix3 b n x)) 0#32)
      (IntOp.cmpi .sle (wrap (F := Ideal) w (ix3 b n x)) 1023#32)) Finset.univ = 1#1 := by
    simp only [e, h1]; rfl
  rw [h2]; rfl

/-! ## One codebook's step, row by row -/

/-- The arguments as the quantizer's parameters. -/
def par (a : Args Ideal) : Rows.Par where
  w1 i d k := a.w1 (ix3 i d k)
  v1 i k := a.v1 (ix2 i k)
  bk i c k := a.cbk (ix3 i c k)
  w2 i k d := a.w2 (ix3 i k d)
  v2 i d := a.v2 (ix2 i d)

/-- Row `n` of batch `b`. -/
def rowAt (r : FVec Ideal S8x64x8192 .f32) (b : Fin 8) (n : Fin 64) (d : Fin 8192) : EReal := r (ix3 b n d)

variable (a : Args Ideal) (i : Fin 6) (r : FVec Ideal S8x64x8192 .f32) (b : Fin 8) (n : Fin 64)

theorem proj_at (k : Fin 8) : proj (F := Ideal) a.w1 a.v1 i r (ix3 b n k)
    = (∑ d, rowAt r b n d * (par a).w1 i d k) + (par a).v1 i k := by
  unfold proj
  pointwise
  rfl

/-- The row's unit projection. -/
theorem zn_at (k : Fin 8) : zn a i r (ix3 b n k) = Rows.zn (par a) i (rowAt r b n) k := by
  have e : ∀ k', proj (F := Ideal) a.w1 a.v1 i r (ix3 b n k') = (fun k => (∑ d, rowAt r b n d * (par a).w1 i d k) + (par a).v1 i k) k' :=
    proj_at a i r b n
  unfold zn Rows.zn Rows.unit Rows.eps
  generalize proj (F := Ideal) a.w1 a.v1 i r = z at e ⊢
  unfold RefVals.unit
  pointwise
  simp only [e]

/-- A codebook's unit entry. -/
theorem unitBook_at (c : Fin 1024) (k : Fin 8) :
    unitBook (F := Ideal) (book a.cbk i) (ix2 c k) = Rows.unit ((par a).bk i c) k := by
  unfold unitBook book Rows.unit Rows.eps
  pointwise
  rfl

/-- The row's products with the unit entries. -/
theorem sims_at (c : Fin 1024) : sims (F := Ideal) (zn a i r) (unitBook (book a.cbk i)) (ix3 b n c)
    = Rows.sim (par a) i (rowAt r b n) c := by
  have e : ∀ k, zn a i r (ix3 b n k) = Rows.zn (par a) i (rowAt r b n) k := zn_at a i r b n
  have e' : ∀ k, unitBook (F := Ideal) (book a.cbk i) (ix2 c k) = Rows.unit ((par a).bk i c) k := unitBook_at a i c
  unfold Rows.sim
  generalize zn a i r = z at e ⊢
  generalize unitBook (F := Ideal) (book a.cbk i) = w at e' ⊢
  unfold sims
  pointwise
  simp only [e, e']

/-- The entry picked. -/
theorem quant_at (k : Fin 8) : quant a i r (ix3 b n k) = Rows.qn (par a) i (rowAt r b n) k := by
  unfold quant Rows.qn
  rw [takes_at _ _ b n k (Rows.best (Rows.sim (par a) i (rowAt r b n))), unitBook_at]
  rw [pick_at]
  simp only [sims_at]

/-- The reconstruction: adding the difference back to the projection gives the entry. -/
theorem recon_at (d : Fin 8192) : recon (F := Ideal) a.w2 a.v2 i (zn a i r) (quant a i r) (ix3 b n d)
    = Rows.zq (par a) i (rowAt r b n) d := by
  have e : ∀ k, zn a i r (ix3 b n k) = Rows.zn (par a) i (rowAt r b n) k := zn_at a i r b n
  have e' : ∀ k, quant a i r (ix3 b n k) = Rows.qn (par a) i (rowAt r b n) k := quant_at a i r b n
  unfold Rows.zq
  generalize zn a i r = z at e ⊢
  generalize quant a i r = w at e' ⊢
  unfold recon
  pointwise
  simp only [e, e', Rows.add_sub_self' (Rows.zn_fin (par a) i (rowAt r b n) _) (Rows.qn_fin (par a) i (rowAt r b n) _)]
  rfl

/-- A batch's mean square difference. -/
theorem lossOf_at : lossOf (F := Ideal) (zn a i r) (quant a i r) (ix1 b)
    = Ideal.div (∑ t, ∑ k, Rows.sq (par a) i (rowAt r b t) k) (Ideal.ofBits .f32 0x44000000#32) := by
  have e : ∀ t k, zn a i r (ix3 b t k) = Rows.zn (par a) i (rowAt r b t) k := zn_at a i r b
  have e' : ∀ t k, quant a i r (ix3 b t k) = Rows.qn (par a) i (rowAt r b t) k := quant_at a i r b
  unfold Rows.sq
  generalize zn a i r = z at e ⊢
  generalize quant a i r = w at e' ⊢
  unfold lossOf
  pointwise
  simp only [e, e']

/-! ## All six codebooks -/

/-- Codebook `i`'s mean square difference of batch `b`. -/
def lossAt (row : Fin 8 → Fin 64 → Fin 8192 → EReal) (i : Fin 6) (b : Fin 8) : EReal :=
  Ideal.div (∑ t, ∑ k, Rows.sq (par a) i (Rows.left (par a) (row b t) i.val) k) (Ideal.ofBits .f32 0x44000000#32)

variable (row : Fin 8 → Fin 64 → Fin 8192 → EReal)

/-- A step from what is left after `i` codebooks. -/
theorem step_at (x : St Ideal) (h : ∀ b n, rowAt x.res b n = Rows.left (par a) (row b n) i.val) :
    (∀ b n, rowAt (stepSt a i x).res b n = Rows.left (par a) (row b n) (i.val + 1))
    ∧ (∀ b n d, (stepSt a i x).acc (ix3 b n d) = (x.acc (ix3 b n d) : EReal) + Rows.zq (par a) i (Rows.left (par a) (row b n) i.val) d)
    ∧ (∀ b, (stepSt a i x).cm (ix1 b) = (x.cm (ix1 b) : EReal) + lossAt a row i b)
    ∧ (∀ b, (stepSt a i x).cb (ix1 b) = (x.cb (ix1 b) : EReal) + lossAt a row i b) := by
  have hi : Fin.ofNat 6 i.val = i := Fin.ext (Nat.mod_eq_of_lt i.isLt)
  have hl : lossOf (F := Ideal) (zn a i x.res) (quant a i x.res) = fun j => lossAt a row i (j 0) := by
    funext j
    obtain ⟨b, rfl⟩ : ∃ b : Fin 8, j = ix1 b := ⟨j 0, by funext d; match d with | ⟨0, _⟩ => rfl⟩
    rw [lossOf_at]
    simp only [h]
    rfl
  refine ⟨fun b n => ?_, fun b n d => ?_, fun b => ?_, fun b => ?_⟩
  · funext d
    show (rowAt x.res b n d) - recon (F := Ideal) a.w2 a.v2 i (zn a i x.res) (quant a i x.res) (ix3 b n d) = Rows.next (par a) (Fin.ofNat 6 i.val) _ d
    rw [recon_at, h, hi]; rfl
  · show (x.acc (ix3 b n d) : EReal) + recon (F := Ideal) a.w2 a.v2 i (zn a i x.res) (quant a i x.res) (ix3 b n d) = _
    rw [recon_at, h]
  · show (x.cm (ix1 b) : EReal) + lossOf (F := Ideal) (zn a i x.res) (quant a i x.res) (ix1 b) = _
    rw [hl]; rfl
  · show (x.cb (ix1 b) : EReal) + lossOf (F := Ideal) (zn a i x.res) (quant a i x.res) (ix1 b) = _
    rw [hl]; rfl

/-- What the six codebooks end with. -/
theorem end_at (z : FVec Ideal S8x4096x128 .f32) (row : Fin 8 → Fin 64 → Fin 8192 → EReal)
    (hrow : ∀ b n d, (st0 (F := Ideal) z).res (ix3 b n d) = row b n d) :
    (∀ b n d, (stEnd a z).acc (ix3 b n d) = 0 + Rows.zq (par a) 0 (Rows.left (par a) (row b n) 0) d
        + Rows.zq (par a) 1 (Rows.left (par a) (row b n) 1) d + Rows.zq (par a) 2 (Rows.left (par a) (row b n) 2) d
        + Rows.zq (par a) 3 (Rows.left (par a) (row b n) 3) d + Rows.zq (par a) 4 (Rows.left (par a) (row b n) 4) d
        + Rows.zq (par a) 5 (Rows.left (par a) (row b n) 5) d)
    ∧ (∀ b, (stEnd a z).cm (ix1 b) = 0 + lossAt a row 0 b + lossAt a row 1 b + lossAt a row 2 b + lossAt a row 3 b
        + lossAt a row 4 b + lossAt a row 5 b)
    ∧ (∀ b, (stEnd a z).cb (ix1 b) = 0 + lossAt a row 0 b + lossAt a row 1 b + lossAt a row 2 b + lossAt a row 3 b
        + lossAt a row 4 b + lossAt a row 5 b) := by
  have h0 : ∀ b n, rowAt (st0 (F := Ideal) z).res b n = Rows.left (par a) (row b n) 0 := fun b n => funext (hrow b n)
  have za : ∀ b n d, (st0 (F := Ideal) z).acc (ix3 b n d) = (0 : EReal) := fun b n d => by
    show Ideal.ofBits .f32 0#32 = 0
    simp [Ideal.ofBits, Ideal.ieee]
  have zc : ∀ b, (st0 (F := Ideal) z).cm (ix1 b) = (0 : EReal) := fun b => by
    show Ideal.ofBits .f32 0#32 = 0
    simp [Ideal.ofBits, Ideal.ieee]
  have zb : ∀ b, (st0 (F := Ideal) z).cb (ix1 b) = (0 : EReal) := zc
  unfold stEnd
  generalize st0 (F := Ideal) z = x at h0 za zc zb ⊢
  obtain ⟨h1, a1, c1, b1⟩ := step_at a 0 row x h0
  generalize stepSt a 0 x = x1 at h1 a1 c1 b1 ⊢
  obtain ⟨h2, a2, c2, b2⟩ := step_at a 1 row x1 h1
  generalize stepSt a 1 x1 = x2 at h2 a2 c2 b2 ⊢
  obtain ⟨h3, a3, c3, b3⟩ := step_at a 2 row x2 h2
  generalize stepSt a 2 x2 = x3 at h3 a3 c3 b3 ⊢
  obtain ⟨h4, a4, c4, b4⟩ := step_at a 3 row x3 h3
  generalize stepSt a 3 x3 = x4 at h4 a4 c4 b4 ⊢
  obtain ⟨h5, a5, c5, b5⟩ := step_at a 4 row x4 h4
  generalize stepSt a 4 x4 = x5 at h5 a5 c5 b5 ⊢
  obtain ⟨-, a6, c6, b6⟩ := step_at a 5 row x5 h5
  refine ⟨fun b n d => ?_, fun b => ?_, fun b => ?_⟩
  · rw [a6, a5, a4, a3, a2, a1, za]; rfl
  · rw [c6, c5, c4, c3, c2, c1, zc]
  · rw [b6, b5, b4, b3, b2, b1, zb]

end Cert.RefAt

end
-- ==== Proof.Equal.lean ====
/-
  The results of the two programs are equal where the activations and the output projection are finite.
-/
module

public import proofs.«01_k».proof.Defs
public import proofs.«01_k».proof.Proof.KerOut
public import proofs.«01_k».proof.Proof.RefAt
public import Idealize.ShloMosaic.Lib.ReduceAll

@[expose] public section

set_option maxRecDepth 16384

noncomputable section

namespace Cert.Equal

open Idealize.ShloMosaic Idealize.ShloMosaic.TcCoe

/-! ## The precondition -/

/-- The precondition's side conditions. -/
theorem preFacts : Cert.Pre_finite_arrays.Facts where
  bcast_S_S8x4096x128 := by decide
  reducesTo_S8x4096x128_S_d0_1_2 := by decide
  h_S_ := by decide
  bcast_S_S6x8x8192 := by decide
  reducesTo_S6x8x8192_S_d0_1_2 := by decide
  bcast_S_S6x8192 := by decide
  reducesTo_S6x8192_S_d0_1 := by decide

/-- An absolute value below infinity is a real number's. -/
theorem real_of_lt {x : Ideal .f32} (h : FloatOps.cmpf .olt (FloatOps.absf x) (Ideal.ofBits .f32 0x7F800000#32) = 1#1) : Rows.IsReal x := by
  have ht : Ideal.ofBits .f32 0x7F800000#32 = (⊤ : EReal) := by simp [Ideal.ofBits, Ideal.ieee]
  rw [ht] at h
  have hl : LT.lt (α := EReal) (max x (-x)) ⊤ := by
    by_contra hn
    simp [Ideal.cmpf_def, Ideal.cmp, Ideal.absf_def, hn] at h
  rw [Rows.isReal_iff]
  constructor
  · rintro rfl; simp at hl
  · rintro rfl; simp at hl

/-- An array whose every entry passes that test holds real numbers. -/
theorem real_of_all {s : Shape} {axes : List (Fin s.rank)} (x : FVec Ideal s .f32) (hb : (⟨0, ![]⟩ : Shape).BroadcastsInDim s ![])
    (hr : s.ReducesTo axes ⟨0, ![]⟩) (h0 : 0 < (⟨0, ![]⟩ : Shape).numel)
    (h : Host.reduce IntOp.andi (cmpf .olt (Host.absf x) (broadcastInDim s ![] hb (constant ⟨0, ![]⟩ .f32 0x7F800000#32)))
      (constantI ⟨0, ![]⟩ 1 1#1) hr h0 (fun a => a.elim0) = 1#1) (i : s.Idx) : Rows.IsReal (x i) := by
  haveI : Subsingleton (⟨0, ![]⟩ : Shape).Idx := ⟨fun a b => funext fun k => k.elim0⟩
  exact real_of_lt (Host.reduce_andi_all _ _ hr h0 _ h i)

section Fn

open Cert.Pre_finite_arrays

/-- The three tests together, on any arrays. -/
theorem pre_fn [Cert.Pre_finite_arrays.Facts] (x0 : FVec Ideal S8x4096x128 .f32) (x1 : FVec Ideal S6x8192x8 .f32) (x2 : FVec Ideal S6x8 .f32) (x3 : FVec Ideal S6x1024x8 .f32)
    (x4 : FVec Ideal S6x8x8192 .f32) (x5 : FVec Ideal S6x8192 .f32)
    (h : (fn (F := Ideal) x0 x1 x2 x3 x4 x5).1 = (fun _ => 1#1) ∧ (fn (F := Ideal) x0 x1 x2 x3 x4 x5).2.1 = (fun _ => 1#1)
      ∧ (fn (F := Ideal) x0 x1 x2 x3 x4 x5).2.2 = (fun _ => 1#1)) :
    (∀ i, Rows.IsReal (x0 i)) ∧ (∀ i, Rows.IsReal (x4 i)) ∧ (∀ i, Rows.IsReal (x5 i)) := by
  obtain ⟨h0, h4, h5⟩ := h
  unfold fn at h0 h4 h5
  dsimp only at h0 h4 h5
  have e0 := congrFun h0 (fun a => a.elim0)
  have e4 := congrFun h4 (fun a => a.elim0)
  have e5 := congrFun h5 (fun a => a.elim0)
  refine ⟨?_, ?_, ?_⟩
  · exact real_of_all x0 _ _ _ e0
  · exact real_of_all x4 _ _ _ e4
  · exact real_of_all x5 _ _ _ e5

end Fn

section Arrays

variable (m : (ℓ : Loc Cert.KernelIdeal.nD Cert.KernelIdeal.τ Cert.KernelIdeal.sig) → Buf (Elt Ideal) ℓ) (c : Dev Cert.KernelIdeal.nD)

open Cert.KerHost (mem)
open Cert.KernelIdeal (main_arg0 main_arg1 main_arg2 main_arg3 main_arg4 main_arg5)

/-- The reference's arguments, the same as the kernel's. -/
def args : Cert.RefVals.Args Ideal := ⟨mem m c main_arg1, mem m c main_arg2, mem m c main_arg3, mem m c main_arg4, mem m c main_arg5⟩

theorem par_eq : RefAt.par (args m c) = KerHost.par m c := rfl

/-- What the precondition says of the arguments. -/
theorem pre (h : Cert.Pre_KernelIdeal_finite_arrays (hPre_finite_arrays := preFacts) m) :
    (∀ i, Rows.IsReal ((mem m c main_arg0 : FVec Ideal Cert.KernelIdeal.S8x4096x128 .f32) i))
    ∧ (∀ i, Rows.IsReal ((mem m c main_arg4 : FVec Ideal Cert.KernelIdeal.S6x8x8192 .f32) i))
    ∧ (∀ i, Rows.IsReal ((mem m c main_arg5 : FVec Ideal Cert.KernelIdeal.S6x8192 .f32) i)) :=
  haveI := preFacts
  pre_fn _ (mem m c main_arg1) (mem m c main_arg2) (mem m c main_arg3) _ _ (h c)

/-! ## The rows -/

/-- Row `t` of batch `b` is row `64 b + t` of all. -/
theorem row_cast (y : FVec Ideal Cert.KernelIdeal.S8x256x2048 .f32) (b : Fin 8) (t : Fin 64) (d : Fin 8192) :
    shapeCast Cert.ReferenceIdeal.S8x64x8192 y Cert.ReferenceIdeal.Gen.facts.shapeCasts_S8x256x2048_S8x64x8192 (ix3 b t d)
      = shapeCast Cert.KernelIdeal.S512x8192 y Cert.KernelIdeal.Gen.facts.shapeCasts_S8x256x2048_S512x8192 (ix2 (KerAll.rowOf b t) d) := by
  pointwise
  refine congrArg y (funext fun a => Fin.ext ?_)
  match a with
  | ⟨0, _⟩ => show b.val = (64 * b.val + t.val) / 64; omega
  | ⟨1, _⟩ => show t.val * 4 + d.val / 2048 = (64 * b.val + t.val) % 64 * 4 + d.val / 2048; omega
  | ⟨2, _⟩ => rfl

/-- The activations laid out by time. -/
def halves (z : FVec Ideal Cert.KernelIdeal.S8x4096x128 .f32) : FVec Ideal Cert.KernelIdeal.S8x256x2048 .f32 :=
  shapeCast _ (transpose Cert.KernelIdeal.S8x256x128x16 [0, 2, 3, 1]
    (shapeCast Cert.KernelIdeal.S8x16x256x128 z Cert.KernelIdeal.Gen.facts.shapeCasts_S8x4096x128_S8x16x256x128)
    Cert.KernelIdeal.Gen.facts.transposes_S8x16x256x128_S8x256x128x16_0_2_3_1) Cert.KernelIdeal.Gen.facts.shapeCasts_S8x256x128x16_S8x256x2048

/-- The reference's first residual holds the kernel's rows. -/
theorem row_eq (z : FVec Ideal Cert.KernelIdeal.S8x4096x128 .f32) (b : Fin 8) (t : Fin 64) (d : Fin 8192) :
    (RefVals.st0 (F := Ideal) z).res (ix3 b t d) = KerHost.rows (F := Ideal) z (ix2 (KerAll.rowOf b t) d) := by
  have h1 : (RefVals.st0 (F := Ideal) z).res = shapeCast _ (halves z) Cert.ReferenceIdeal.Gen.facts.shapeCasts_S8x256x2048_S8x64x8192 := rfl
  have h2 : KerHost.rows (F := Ideal) z = shapeCast _ (halves z) Cert.KernelIdeal.Gen.facts.shapeCasts_S8x256x2048_S512x8192 := rfl
  rw [h1, h2]
  exact row_cast (halves z) b t d

theorem cast_real {s t : Shape} {x : FVec Ideal s .f32} (h : s.ShapeCasts t) (hx : ∀ i, Rows.IsReal (x i)) (j : t.Idx) :
    Rows.IsReal (shapeCast t x h j) := hx _

theorem moved_real {s t : Shape} {perm : List (Fin s.rank)} {x : FVec Ideal s .f32} (h : s.Transposes perm t) (hx : ∀ i, Rows.IsReal (x i)) (j : t.Idx) :
    Rows.IsReal (transpose t perm x h j) := hx _

/-- With real activations the rows are real. -/
theorem row_real (z : FVec Ideal Cert.KernelIdeal.S8x4096x128 .f32) (hz : ∀ i, Rows.IsReal (z i)) (j : Cert.KernelIdeal.S512x8192.Idx) :
    Rows.IsReal (KerHost.rows (F := Ideal) z j) := by
  unfold KerHost.rows
  exact cast_real _ (cast_real _ (moved_real _ (cast_real _ hz))) _

/-! ## The results -/

/-- Going through another shape of the same size changes nothing. -/
theorem cast_via {s t u v : Shape} (x : FVec Ideal s .f32) (h1 : s.ShapeCasts t) (h2 : t.ShapeCasts v) (h3 : s.ShapeCasts u) (h4 : u.ShapeCasts v) :
    shapeCast v (shapeCast t x h1) h2 = shapeCast v (shapeCast u x h3) h4 := by
  funext i
  show x _ = x _
  rw [Shape.reshapeEquiv_reshapeEquiv, Shape.reshapeEquiv_reshapeEquiv]

/-- Row `64 b + t` of all is row `t` of batch `b`. -/
theorem acc_cast (x : FVec Ideal Cert.ReferenceIdeal.S8x64x8192 .f32) (h : Cert.ReferenceIdeal.S8x64x8192.ShapeCasts Cert.KernelIdeal.S512x8192)
    (b : Fin 8) (t : Fin 64) (d : Fin 8192) : shapeCast Cert.KernelIdeal.S512x8192 x h (ix2 (KerAll.rowOf b t) d) = x (ix3 b t d) := by
  pointwise
  refine congrArg x (funext fun a => Fin.ext ?_)
  match a with
  | ⟨0, _⟩ => show (64 * b.val + t.val) / 64 = b.val; omega
  | ⟨1, _⟩ => show (64 * b.val + t.val) % 64 = t.val; omega
  | ⟨2, _⟩ => rfl

theorem mem_casts : Cert.ReferenceIdeal.S8x64x8192.ShapeCasts Cert.KernelIdeal.S512x8192 := by decide

/-- The first result. -/
theorem res0_eq (h : Cert.Pre_KernelIdeal_finite_arrays (hPre_finite_arrays := preFacts) m) :
    KerOut.res0 m c = RefVals.back (F := Ideal) (RefVals.stEnd (args m c) (mem m c main_arg0)).acc := by
  obtain ⟨hz, hw, hv⟩ := pre m c h
  obtain ⟨ha, -, -⟩ := RefAt.end_at (args m c) (mem m c main_arg0) (fun b t => KerOut.row m c (KerAll.rowOf b t)) (row_eq _)
  have e : KerOut.outK m c = shapeCast Cert.KernelIdeal.S512x8192 (RefVals.stEnd (args m c) (mem m c main_arg0)).acc mem_casts := by
    funext y
    obtain ⟨b, t, d, rfl⟩ : ∃ (b : Fin 8) (t : Fin 64) (d : Fin 8192), y = ix2 (KerAll.rowOf b t) d :=
      ⟨⟨(y 0).val / 64, Nat.div_lt_of_lt_mul (y 0).isLt⟩, ⟨(y 0).val % 64, Nat.mod_lt _ (by decide)⟩, y 1, by
        funext a
        match a with
        | ⟨0, _⟩ => exact Fin.ext (Nat.div_add_mod _ 64).symm
        | ⟨1, _⟩ => rfl⟩
    refine Eq.trans ?_ (acc_cast _ _ b t d).symm
    refine Eq.trans ?_ (ha b t d).symm
    rw [par_eq]
    exact Rows.last_eq (KerHost.par m c) (fun i k d => hw (ix3 i k d)) (fun i d => hv (ix2 i d)) _ d (row_real _ hz _)
  unfold KerOut.res0 RefVals.back
  rw [e]
  generalize (RefVals.stEnd (args m c) (mem m c main_arg0)).acc = x
  rw [cast_via x mem_casts _ Cert.ReferenceIdeal.Gen.facts.shapeCasts_S8x64x8192_S8x256x2048 Cert.ReferenceIdeal.Gen.facts.shapeCasts_S8x256x2048_S8x256x128x16]

/-- A column read as a list. -/
theorem col_cast (x : FVec Ideal Cert.KernelIdeal.S8x1 .f32) (b : Fin 8) :
    shapeCast Cert.KernelIdeal.S8 x Cert.KernelIdeal.Gen.facts.shapeCasts_S8x1_S8 (ix1 b) = x (ix2 b 0) := by
  pointwise

/-- A batch's loss. -/
theorem loss_eq (b : Fin 8) : KerOut.res1 m c (ix1 b)
    = 0 + RefAt.lossAt (args m c) (fun b t => KerOut.row m c (KerAll.rowOf b t)) 0 b
      + RefAt.lossAt (args m c) (fun b t => KerOut.row m c (KerAll.rowOf b t)) 1 b
      + RefAt.lossAt (args m c) (fun b t => KerOut.row m c (KerAll.rowOf b t)) 2 b
      + RefAt.lossAt (args m c) (fun b t => KerOut.row m c (KerAll.rowOf b t)) 3 b
      + RefAt.lossAt (args m c) (fun b t => KerOut.row m c (KerAll.rowOf b t)) 4 b
      + RefAt.lossAt (args m c) (fun b t => KerOut.row m c (KerAll.rowOf b t)) 5 b := by
  unfold KerOut.res1 RefAt.lossAt
  rw [par_eq]
  exact (col_cast _ b).trans (Rows.means
    (fun i t k => Rows.sq (KerHost.par m c) i (Rows.left (KerHost.par m c) (KerOut.row m c (KerAll.rowOf b t)) i.val) k)
    fun i t k => Rows.sq_fin _ _ _ _)

/-- The second and the third result. -/
theorem res1_eq : KerOut.res1 m c = (RefVals.stEnd (F := Ideal) (args m c) (mem m c main_arg0)).cm
    ∧ KerOut.res1 m c = (RefVals.stEnd (F := Ideal) (args m c) (mem m c main_arg0)).cb := by
  obtain ⟨-, hm, hb⟩ := RefAt.end_at (args m c) (mem m c main_arg0) (fun b t => KerOut.row m c (KerAll.rowOf b t)) (row_eq _)
  have hi : ∀ y : Cert.KernelIdeal.S8.Idx, ∃ b : Fin 8, y = ix1 b := fun y => ⟨y 0, by funext a; match a with | ⟨0, _⟩ => rfl⟩
  refine ⟨funext fun y => ?_, funext fun y => ?_⟩ <;> obtain ⟨b, rfl⟩ := hi y
  · exact (loss_eq m c b).trans (hm b).symm
  · exact (loss_eq m c b).trans (hb b).symm

end Arrays

end Cert.Equal

end
-- ==== Proof.lean ====
/-
  The proof of the certificate's claims: the frames of the kernel, of its idealization and of the reference, and that the
  idealization and the reference end with equal results.
-/
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Equal
public import Idealize.ShloMosaic.Init
public import Idealize.ShloMosaic.Lib.Claim
public import Idealize.ShloMosaic.Lib.Quiescent

@[expose] public section

noncomputable section

namespace Cert.Proof

open Idealize.ShloMosaic Idealize.SL.Sem Idealize.ShloMosaic.StableHlo

section Reference

open Cert.ReferenceIdeal

/-- The reference leaves its arguments unchanged and its counters at zero. -/
theorem ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5))
    ∧ r.2.sem = fun _ => 0) :=
  (θ_run _ _ _).mono (fun r h => ⟨fun c => ⟨(h c main_arg0).trans (RefRun.arg_kept m c main_arg0 (by decide)),
      (h c main_arg1).trans (RefRun.arg_kept m c main_arg1 (by decide)), (h c main_arg2).trans (RefRun.arg_kept m c main_arg2 (by decide)),
      (h c main_arg3).trans (RefRun.arg_kept m c main_arg3 (by decide)), (h c main_arg4).trans (RefRun.arg_kept m c main_arg4 (by decide)),
      (h c main_arg5).trans (RefRun.arg_kept m c main_arg5 (by decide))⟩, sem_eq_zero_of_no_sems (by decide) r.2⟩) (RefRun.run m g)

end Reference

/-- What the reference's results are of the kernel's arguments. -/
theorem ref_results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    after RefOps.ops (launchContents m' c) (Proc.devRef .tc Cert.ReferenceIdeal.main_v298)
      = RefVals.back (RefVals.stEnd (Equal.args m c) (KerHost.mem m c Cert.KernelIdeal.main_arg0)).acc
    ∧ after RefOps.ops (launchContents m' c) (Proc.devRef .tc Cert.ReferenceIdeal.main_v293)
      = (RefVals.stEnd (Equal.args m c) (KerHost.mem m c Cert.KernelIdeal.main_arg0)).cm
    ∧ after RefOps.ops (launchContents m' c) (Proc.devRef .tc Cert.ReferenceIdeal.main_v294)
      = (RefVals.stEnd (Equal.args m c) (KerHost.mem m c Cert.KernelIdeal.main_arg0)).cb := by
  obtain ⟨h0, h1, h2, h3, h4, h5⟩ := h
  have e := RefVals.results m' c
  dsimp only at e
  rw [h0, h1, h2, h3, h4, h5] at e
  exact e

/-- The idealized kernel and the reference end with equal results. -/
theorem same : Cert.algebraic_KernelIdeal_ReferenceIdeal_pre_finite_arrays (hPre_finite_arrays := Equal.preFacts) := by
  intro m g m' g' hp ha
  refine ⟨fun c => KerOut.res0 m c, fun c => KerOut.res1 m c, fun c => KerOut.res1 m c, ?_, ?_⟩
  · exact (θ_run _ _ _).mono (fun r h c => ⟨(h.1 c).1, (h.1 c).2, (h.1 c).2, h.2 c⟩)
      (θ_run_and (KerOut.run m g) (Cert.KernelIdeal.Gen.unchanged m g))
  · refine (θ_run _ _ _).mono (fun r h c => ?_) (θ_run_and (RefRun.run m' g') (ref_frame m' g'))
    obtain ⟨e0, e1, e2⟩ := ref_results m m' c (ha c)
    exact ⟨((h.1 c _).trans e0).trans (Equal.res0_eq m c hp).symm, ((h.1 c _).trans e1).trans (Equal.res1_eq m c).1.symm,
      ((h.1 c _).trans e2).trans (Equal.res1_eq m c).2.symm, h.2.1 c⟩

/-- The certificate's claims. -/
theorem claim : Cert.Claim :=
  ⟨Cert.Kernel.Gen.facts, Cert.KernelIdeal.Gen.facts, Cert.ReferenceIdeal.Gen.facts, Equal.preFacts,
    fun m g _ => Cert.Kernel.Gen.frame m g, fun m g _ => Cert.KernelIdeal.Gen.frame m g, fun m g _ => Cert.KernelIdeal.Gen.frame m g,
    fun m g _ => ref_frame m g, fun m g _ => ref_frame m g, trivial, same⟩

end Cert.Proof

end
